-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def preserves_Kernel_KernelIdeal : Prop :=
  IdealRules.named_const.Statement Cert.KernelIdeal.κ "scale_log2e" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S32x2048x512 : Shape := ⟨3, ![32, 2048, 512]⟩
abbrev S1x64 : Shape := ⟨2, ![1, 64]⟩
abbrev S1x128 : Shape := ⟨2, ![1, 128]⟩
abbrev S_ : Shape := ⟨0, ![]⟩

class Facts : Prop where
  bcast_S_S32x2048x512 : S_.BroadcastsInDim S32x2048x512 (![] : Fin 0 → Fin S32x2048x512.rank)
  bcast_S_S1x64 : S_.BroadcastsInDim S1x64 (![] : Fin 0 → Fin S1x64.rank)

variable [Facts]

def fn_part1 {F : FTy → Type} [FloatOps F] (main_arg6 : FVec F S1x64 .f32) (main_v2 : IVec S32x2048x512 1) (main_v5 : IVec S32x2048x512 1) (main_v8 : IVec S32x2048x512 1) (main_v11 : IVec S1x64 1) (main_v14 : IVec S1x64 1) (main_v17 : IVec S1x64 1) : IVec S32x2048x512 1 × IVec S32x2048x512 1 × IVec S32x2048x512 1 × IVec S1x64 1 × IVec S1x64 1 × IVec S1x64 1 × IVec S1x64 1 :=
  let main_v18 : FVec F S1x64 .f32 := Host.absf main_arg6
  let main_cst_5 : FVec F S_ .f32 := constant S_ .f32 0x7F800000#32
  let main_v19 : FVec F S1x64 .f32 := broadcastInDim S1x64 ![] bcast_S_S1x64 main_cst_5
  let main_v20 : IVec S1x64 1 := cmpf .olt main_v18 main_v19
  (main_v2, main_v5, main_v8, main_v11, main_v14, main_v17, main_v20)

def fn {F : FTy → Type} [FloatOps F] (main_arg0 : FVec F S32x2048x512 .f32) (main_arg1 : FVec F S32x2048x512 .f32) (main_arg2 : FVec F S32x2048x512 .f32) (main_arg3 : FVec F S1x64 .f32) (main_arg4 : FVec F S1x64 .f32) (main_arg5 : FVec F S1x64 .f32) (main_arg6 : FVec F S1x64 .f32) (main_arg7 : FVec F S1x128 .f32) : IVec S32x2048x512 1 × IVec S32x2048x512 1 × IVec S32x2048x512 1 × IVec S1x64 1 × IVec S1x64 1 × IVec S1x64 1 × IVec S1x64 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_v3 : FVec F S32x2048x512 .f32 := Host.absf main_arg1
  let main_cst_0 : FVec F S_ .f32 := constant S_ .f32 0x7F800000#32
  let main_v4 : FVec F S32x2048x512 .f32 := broadcastInDim S32x2048x512 ![] bcast_S_S32x2048x512 main_cst_0
  let main_v5 : IVec S32x2048x512 1 := cmpf .olt main_v3 main_v4
  let main_v6 : FVec F S32x2048x512 .f32 := Host.absf main_arg2
  let main_cst_1 : FVec F S_ .f32 := constant S_ .f32 0x7F800000#32
  let main_v7 : FVec F S32x2048x512 .f32 := broadcastInDim S32x2048x512 ![] bcast_S_S32x2048x512 main_cst_1
  let main_v8 : IVec S32x2048x512 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x64 .f32 := Host.absf main_arg4
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S1x64 .f32 := Host.absf main_arg5
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  fn_part1 (F := F) main_arg6 main_v2 main_v5 main_v8 main_v11 main_v14 main_v17
-- ==== Kernel.lean ====
abbrev S32x2048x512 : Shape := ⟨3, ![32, 2048, 512]⟩
abbrev S1x64 : Shape := ⟨2, ![1, 64]⟩
abbrev S1x128 : Shape := ⟨2, ![1, 128]⟩
abbrev S64 : Shape := ⟨1, ![64]⟩
abbrev S128 : Shape := ⟨1, ![128]⟩
abbrev S1x512x512 : Shape := ⟨3, ![1, 512, 512]⟩
abbrev S1x2048x512 : Shape := ⟨3, ![1, 2048, 512]⟩
abbrev S4x1024x128 : Shape := ⟨3, ![4, 1024, 128]⟩
abbrev S4x1x1024 : Shape := ⟨3, ![4, 1, 1024]⟩
abbrev S4x128x1024 : Shape := ⟨3, ![4, 128, 1024]⟩
abbrev S2x512x1024 : Shape := ⟨3, ![2, 512, 1024]⟩
abbrev S1 : Shape := ⟨1, ![1]⟩
abbrev S1x1 : Shape := ⟨2, ![1, 1]⟩
abbrev S512x1024 : Shape := ⟨2, ![512, 1024]⟩
abbrev S1x512x128 : Shape := ⟨3, ![1, 512, 128]⟩
abbrev S512x128 : Shape := ⟨2, ![512, 128]⟩
abbrev S1024x128 : Shape := ⟨2, ![1024, 128]⟩
abbrev S1x1024x128 : Shape := ⟨3, ![1, 1024, 128]⟩
abbrev S1x512x1024 : Shape := ⟨3, ![1, 512, 1024]⟩
abbrev S1x1x1024 : Shape := ⟨3, ![1, 1, 1024]⟩
abbrev S1x1024 : Shape := ⟨2, ![1, 1024]⟩
abbrev S1024 : Shape := ⟨1, ![1024]⟩
abbrev S1x128x1024 : Shape := ⟨3, ![1, 128, 1024]⟩
abbrev S128x1024 : Shape := ⟨2, ![128, 1024]⟩
abbrev S1x128x512 : Shape := ⟨3, ![1, 128, 512]⟩
abbrev S128x512 : Shape := ⟨2, ![128, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 21
  | .vmem => 18
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S32x2048x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S128, .f32⟩
  | .hbm, ⟨17, _⟩ => ⟨S1x128, .f32⟩
  | .hbm, ⟨18, _⟩ => ⟨S32x2048x512, .bf16⟩
  | .hbm, ⟨19, _⟩ => ⟨S32x2048x512, .bf16⟩
  | .hbm, ⟨20, _⟩ => ⟨S32x2048x512, .bf16⟩
  | .local _ .vmem, ⟨0, _⟩ => ⟨S1x512x512, .f32⟩
  | .local _ .vmem, ⟨1, _⟩ => ⟨S1x512x512, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S1x512x512, .bf16⟩
  | .local _ .vmem, ⟨12, _⟩ => ⟨S1x512x512, .bf16⟩
  | .local _ .vmem, ⟨13, _⟩ => ⟨S4x1024x128, .bf16⟩
  | .local _ .vmem, ⟨14, _⟩ => ⟨S4x1x1024, .f32⟩
  | .local _ .vmem, ⟨15, _⟩ => ⟨S4x1x1024, .f32⟩
  | .local _ .vmem, ⟨16, _⟩ => ⟨S4x128x1024, .f32⟩
  | .local _ .vmem, ⟨17, _⟩ => ⟨S2x512x1024, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![32, 4], ![false, false]⟩

@[reducible] def k0_t1_loop (i : grid0.Coords) : Scf.Loop 32 :=
  let c0_i32_65 : BitVec 32 := 0#32
  let arg1 : BitVec 32 := BitVec.ofNat 32 (i 1).val
  let v115 : BitVec 32 := Scalar.subi arg1 c0_i32_65
  let c1_i32 : BitVec 32 := 1#32
  let v117 : BitVec 32 := Scalar.divsi v115 c1_i32
  let v118 : BitVec 32 := Scalar.muli v117 c1_i32
  let v119 : BitVec 32 := Scalar.addi c0_i32_65 v118
  let c1_i32_66 : BitVec 32 := 1#32
  ⟨c0_i32_65, v119, c1_i32_66⟩
def k0_mult1 (i : grid0.Coords) (k0_t1 : Fin (k0_t1_loop i).trips) : BitVec 32 :=
  let c0_i32_65 : BitVec 32 := 0#32
  let c1_i32_66 : BitVec 32 := 1#32
  let arg16 : BitVec 32 := Scf.iv c0_i32_65 c1_i32_66 k0_t1
  let c512_i32_287 : BitVec 32 := 512#32
  let v449 : BitVec 32 := Scalar.muli arg16 c512_i32_287
  v449
def k0_off1 (i : grid0.Coords) (k0_t1 : Fin (k0_t1_loop i).trips) : Fin 3 → Nat :=
  let c0_291 : Index := 0#32
  let c0_i32_65 : BitVec 32 := 0#32
  let c1_i32_66 : BitVec 32 := 1#32
  let arg16 : BitVec 32 := Scf.iv c0_i32_65 c1_i32_66 k0_t1
  let c512_i32_287 : BitVec 32 := 512#32
  let v449 : BitVec 32 := Scalar.muli arg16 c512_i32_287
  let v450 : BitVec 32 := v449
  let v453 : Index := Scalar.indexCast v450
  let c128_292 : Index := 128#32
  ![0, v453.toNat, 128]
def k0_off2 (i : grid0.Coords) (k0_t1 : Fin (k0_t1_loop i).trips) : Fin 3 → Nat :=
  let c0_300 : Index := 0#32
  let c0_i32_65 : BitVec 32 := 0#32
  let c1_i32_66 : BitVec 32 := 1#32
  let arg16 : BitVec 32 := Scf.iv c0_i32_65 c1_i32_66 k0_t1
  let c512_i32_287 : BitVec 32 := 512#32
  let v449 : BitVec 32 := Scalar.muli arg16 c512_i32_287
  let v450 : BitVec 32 := v449
  let v462 : Index := Scalar.indexCast v450
  let c0_301 : Index := 0#32
  ![0, v462.toNat, 0]
def k0_off3 (i : grid0.Coords) (k0_t1 : Fin (k0_t1_loop i).trips) : Fin 3 → Nat :=
  let c0_326 : Index := 0#32
  let c0_i32_65 : BitVec 32 := 0#32
  let c1_i32_66 : BitVec 32 := 1#32
  let arg16 : BitVec 32 := Scf.iv c0_i32_65 c1_i32_66 k0_t1
  let c512_i32_287 : BitVec 32 := 512#32
  let v449 : BitVec 32 := Scalar.muli arg16 c512_i32_287
  let v450 : BitVec 32 := v449
  let v499 : Index := Scalar.indexCast v450
  let c256_327 : Index := 256#32
  ![0, v499.toNat, 256]
def k0_off4 (i : grid0.Coords) (k0_t1 : Fin (k0_t1_loop i).trips) : Fin 3 → Nat :=
  let c0_361 : Index := 0#32
  let c0_i32_65 : BitVec 32 := 0#32
  let c1_i32_66 : BitVec 32 := 1#32
  let arg16 : BitVec 32 := Scf.iv c0_i32_65 c1_i32_66 k0_t1
  let c512_i32_287 : BitVec 32 := 512#32
  let v449 : BitVec 32 := Scalar.muli arg16 c512_i32_287
  let v450 : BitVec 32 := v449
  let v545 : Index := Scalar.indexCast v450
  let c384_362 : Index := 384#32
  ![0, v545.toNat, 384]
def k0_mult2 (i : grid0.Coords) (k0_t1 : Fin (k0_t1_loop i).trips) : BitVec 32 :=
  let c0_i32_65 : BitVec 32 := 0#32
  let c1_i32_66 : BitVec 32 := 1#32
  let arg16 : BitVec 32 := Scf.iv c0_i32_65 c1_i32_66 k0_t1
  let c512_i32_287 : BitVec 32 := 512#32
  let v449 : BitVec 32 := Scalar.muli arg16 c512_i32_287
  let v450 : BitVec 32 := v449
  let c512_i32_396 : BitVec 32 := 512#32
  let v591 : BitVec 32 := Scalar.addi v450 c512_i32_396
  v591
def k0_off5 (i : grid0.Coords) (k0_t1 : Fin (k0_t1_loop i).trips) : Fin 3 → Nat :=
  let c0_397 : Index := 0#32
  let c0_i32_65 : BitVec 32 := 0#32
  let c1_i32_66 : BitVec 32 := 1#32
  let arg16 : BitVec 32 := Scf.iv c0_i32_65 c1_i32_66 k0_t1
  let c512_i32_287 : BitVec 32 := 512#32
  let v449 : BitVec 32 := Scalar.muli arg16 c512_i32_287
  let v450 : BitVec 32 := v449
  let c512_i32_396 : BitVec 32 := 512#32
  let v591 : BitVec 32 := Scalar.addi v450 c512_i32_396
  let v592 : BitVec 32 := v591
  let v593 : Index := Scalar.indexCast v592
  let c0_398 : Index := 0#32
  ![0, v593.toNat, 0]
@[reducible] def k0_t2_loop (i : grid0.Coords) : Scf.Loop 32 :=
  let c0_i32_65 : BitVec 32 := 0#32
  let arg1 : BitVec 32 := BitVec.ofNat 32 (i 1).val
  let v115 : BitVec 32 := Scalar.subi arg1 c0_i32_65
  let c1_i32 : BitVec 32 := 1#32
  let v117 : BitVec 32 := Scalar.divsi v115 c1_i32
  let v118 : BitVec 32 := Scalar.muli v117 c1_i32
  let v119 : BitVec 32 := Scalar.addi c0_i32_65 v118
  let v116 : BitVec 32 := Scalar.addi c0_i32_65 v115
  let c1_i32_67 : BitVec 32 := 1#32
  ⟨v119, v116, c1_i32_67⟩
def k0_mult3 (i : grid0.Coords) (k0_t2 : Fin (k0_t2_loop i).trips) : BitVec 32 :=
  let c0_i32_65 : BitVec 32 := 0#32
  let arg1 : BitVec 32 := BitVec.ofNat 32 (i 1).val
  let v115 : BitVec 32 := Scalar.subi arg1 c0_i32_65
  let c1_i32 : BitVec 32 := 1#32
  let v117 : BitVec 32 := Scalar.divsi v115 c1_i32
  let v118 : BitVec 32 := Scalar.muli v117 c1_i32
  let v119 : BitVec 32 := Scalar.addi c0_i32_65 v118
  let c1_i32_67 : BitVec 32 := 1#32
  let arg16 : BitVec 32 := Scf.iv v119 c1_i32_67 k0_t2
  let c512_i32_287 : BitVec 32 := 512#32
  let v449 : BitVec 32 := Scalar.muli arg16 c512_i32_287
  v449
def k0_off6 (i : grid0.Coords) (k0_t2 : Fin (k0_t2_loop i).trips) : Fin 3 → Nat :=
  let c0_291 : Index := 0#32
  let c0_i32_65 : BitVec 32 := 0#32
  let arg1 : BitVec 32 := BitVec.ofNat 32 (i 1).val
  let v115 : BitVec 32 := Scalar.subi arg1 c0_i32_65
  let c1_i32 : BitVec 32 := 1#32
  let v117 : BitVec 32 := Scalar.divsi v115 c1_i32
  let v118 : BitVec 32 := Scalar.muli v117 c1_i32
  let v119 : BitVec 32 := Scalar.addi c0_i32_65 v118
  let c1_i32_67 : BitVec 32 := 1#32
  let arg16 : BitVec 32 := Scf.iv v119 c1_i32_67 k0_t2
  let c512_i32_287 : BitVec 32 := 512#32
  let v449 : BitVec 32 := Scalar.muli arg16 c512_i32_287
  let v450 : BitVec 32 := v449
  let v453 : Index := Scalar.indexCast v450
  let c128_292 : Index := 128#32
  ![0, v453.toNat, 128]
def k0_off7 (i : grid0.Coords) (k0_t2 : Fin (k0_t2_loop i).trips) : Fin 3 → Nat :=
  let c0_300 : Index := 0#32
  let c0_i32_65 : BitVec 32 := 0#32
  let arg1 : BitVec 32 := BitVec.ofNat 32 (i 1).val
  let v115 : BitVec 32 := Scalar.subi arg1 c0_i32_65
  let c1_i32 : BitVec 32 := 1#32
  let v117 : BitVec 32 := Scalar.divsi v115 c1_i32
  let v118 : BitVec 32 := Scalar.muli v117 c1_i32
  let v119 : BitVec 32 := Scalar.addi c0_i32_65 v118
  let c1_i32_67 : BitVec 32 := 1#32
  let arg16 : BitVec 32 := Scf.iv v119 c1_i32_67 k0_t2
  let c512_i32_287 : BitVec 32 := 512#32
  let v449 : BitVec 32 := Scalar.muli arg16 c512_i32_287
  let v450 : BitVec 32 := v449
  let v462 : Index := Scalar.indexCast v450
  let c0_301 : Index := 0#32
  ![0, v462.toNat, 0]
def k0_off8 (i : grid0.Coords) (k0_t2 : Fin (k0_t2_loop i).trips) : Fin 3 → Nat :=
  let c0_326 : Index := 0#32
  let c0_i32_65 : BitVec 32 := 0#32
  let arg1 : BitVec 32 := BitVec.ofNat 32 (i 1).val
  let v115 : BitVec 32 := Scalar.subi arg1 c0_i32_65
  let c1_i32 : BitVec 32 := 1#32
  let v117 : BitVec 32 := Scalar.divsi v115 c1_i32
  let v118 : BitVec 32 := Scalar.muli v117 c1_i32
  let v119 : BitVec 32 := Scalar.addi c0_i32_65 v118
  let c1_i32_67 : BitVec 32 := 1#32
  let arg16 : BitVec 32 := Scf.iv v119 c1_i32_67 k0_t2
  let c512_i32_287 : BitVec 32 := 512#32
  let v449 : BitVec 32 := Scalar.muli arg16 c512_i32_287
  let v450 : BitVec 32 := v449
  let v499 : Index := Scalar.indexCast v450
  let c256_327 : Index := 256#32
  ![0, v499.toNat, 256]
def k0_off9 (i : grid0.Coords) (k0_t2 : Fin (k0_t2_loop i).trips) : Fin 3 → Nat :=
  let c0_361 : Index := 0#32
  let c0_i32_65 : BitVec 32 := 0#32
  let arg1 : BitVec 32 := BitVec.ofNat 32 (i 1).val
  let v115 : BitVec 32 := Scalar.subi arg1 c0_i32_65
  let c1_i32 : BitVec 32 := 1#32
  let v117 : BitVec 32 := Scalar.divsi v115 c1_i32
  let v118 : BitVec 32 := Scalar.muli v117 c1_i32
  let v119 : BitVec 32 := Scalar.addi c0_i32_65 v118
  let c1_i32_67 : BitVec 32 := 1#32
  let arg16 : BitVec 32 := Scf.iv v119 c1_i32_67 k0_t2
  let c512_i32_287 : BitVec 32 := 512#32
  let v449 : BitVec 32 := Scalar.muli arg16 c512_i32_287
  let v450 : BitVec 32 := v449
  let v545 : Index := Scalar.indexCast v450
  let c384_362 : Index := 384#32
  ![0, v545.toNat, 384]
def k0_mult4 (i : grid0.Coords) (k0_t2 : Fin (k0_t2_loop i).trips) : BitVec 32 :=
  let c0_i32_65 : BitVec 32 := 0#32
  let arg1 : BitVec 32 := BitVec.ofNat 32 (i 1).val
  let v115 : BitVec 32 := Scalar.subi arg1 c0_i32_65
  let c1_i32 : BitVec 32 := 1#32
  let v117 : BitVec 32 := Scalar.divsi v115 c1_i32
  let v118 : BitVec 32 := Scalar.muli v117 c1_i32
  let v119 : BitVec 32 := Scalar.addi c0_i32_65 v118
  let c1_i32_67 : BitVec 32 := 1#32
  let arg16 : BitVec 32 := Scf.iv v119 c1_i32_67 k0_t2
  let c512_i32_287 : BitVec 32 := 512#32
  let v449 : BitVec 32 := Scalar.muli arg16 c512_i32_287
  let v450 : BitVec 32 := v449
  let c512_i32_396 : BitVec 32 := 512#32
  let v591 : BitVec 32 := Scalar.addi v450 c512_i32_396
  v591
def k0_off10 (i : grid0.Coords) (k0_t2 : Fin (k0_t2_loop i).trips) : Fin 3 → Nat :=
  let c0_397 : Index := 0#32
  let c0_i32_65 : BitVec 32 := 0#32
  let arg1 : BitVec 32 := BitVec.ofNat 32 (i 1).val
  let v115 : BitVec 32 := Scalar.subi arg1 c0_i32_65
  let c1_i32 : BitVec 32 := 1#32
  let v117 : BitVec 32 := Scalar.divsi v115 c1_i32
  let v118 : BitVec 32 := Scalar.muli v117 c1_i32
  let v119 : BitVec 32 := Scalar.addi c0_i32_65 v118
  let c1_i32_67 : BitVec 32 := 1#32
  let arg16 : BitVec 32 := Scf.iv v119 c1_i32_67 k0_t2
  let c512_i32_287 : BitVec 32 := 512#32
  let v449 : BitVec 32 := Scalar.muli arg16 c512_i32_287
  let v450 : BitVec 32 := v449
  let c512_i32_396 : BitVec 32 := 512#32
  let v591 : BitVec 32 := Scalar.addi v450 c512_i32_396
  let v592 : BitVec 32 := v591
  let v593 : Index := Scalar.indexCast v592
  let c0_398 : Index := 0#32
  ![0, v593.toNat, 0]
def k0_mult5 (i : grid0.Coords) : BitVec 32 :=
  let arg1 : BitVec 32 := BitVec.ofNat 32 (i 1).val
  let c512_i32_68 : BitVec 32 := 512#32
  let v120 : BitVec 32 := Scalar.muli arg1 c512_i32_68
  v120
def k0_off11 (i : grid0.Coords) : Fin 3 → Nat :=
  let c0_72 : Index := 0#32
  let arg1 : BitVec 32 := BitVec.ofNat 32 (i 1).val
  let c512_i32_68 : BitVec 32 := 512#32
  let v120 : BitVec 32 := Scalar.muli arg1 c512_i32_68
  let v121 : BitVec 32 := v120
  let v124 : Index := Scalar.indexCast v121
  let c128_73 : Index := 128#32
  ![0, v124.toNat, 128]
def k0_off12 (i : grid0.Coords) : Fin 3 → Nat :=
  let c0_82 : Index := 0#32
  let arg1 : BitVec 32 := BitVec.ofNat 32 (i 1).val
  let c512_i32_68 : BitVec 32 := 512#32
  let v120 : BitVec 32 := Scalar.muli arg1 c512_i32_68
  let v121 : BitVec 32 := v120
  let v135 : Index := Scalar.indexCast v121
  let c0_83 : Index := 0#32
  ![0, v135.toNat, 0]
def k0_off13 (i : grid0.Coords) : Fin 3 → Nat :=
  let c0_108 : Index := 0#32
  let arg1 : BitVec 32 := BitVec.ofNat 32 (i 1).val
  let c512_i32_68 : BitVec 32 := 512#32
  let v120 : BitVec 32 := Scalar.muli arg1 c512_i32_68
  let v121 : BitVec 32 := v120
  let v172 : Index := Scalar.indexCast v121
  let c256_109 : Index := 256#32
  ![0, v172.toNat, 256]
def k0_off14 (i : grid0.Coords) : Fin 3 → Nat :=
  let c0_144 : Index := 0#32
  let arg1 : BitVec 32 := BitVec.ofNat 32 (i 1).val
  let c512_i32_68 : BitVec 32 := 512#32
  let v120 : BitVec 32 := Scalar.muli arg1 c512_i32_68
  let v121 : BitVec 32 := v120
  let v220 : Index := Scalar.indexCast v121
  let c384_145 : Index := 384#32
  ![0, v220.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "scale_log2e" => some (((8 * (Real.log 2))⁻¹ : ℝ) : EReal)
  | _ => none
-- ==== ReferenceIdeal.lean ====
abbrev S32x2048x512 : Shape := ⟨3, ![32, 2048, 512]⟩
abbrev S1x64 : Shape := ⟨2, ![1, 64]⟩
abbrev S1x128 : Shape := ⟨2, ![1, 128]⟩
abbrev S32x2048x4x2x64 : Shape := ⟨5, ![32, 2048, 4, 2, 64]⟩
abbrev S32x2048x4x128 : Shape := ⟨4, ![32, 2048, 4, 128]⟩
abbrev S64 : Shape := ⟨1, ![64]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x4x2x2048x2048 : Shape := ⟨5, ![32, 4, 2, 2048, 2048]⟩
abbrev S32x4x2x2048 : Shape := ⟨4, ![32, 4, 2, 2048]⟩
abbrev S32x4x2x2048x1 : Shape := ⟨5, ![32, 4, 2, 2048, 1]⟩
abbrev S32x4x1x2048x2048 : Shape := ⟨5, ![32, 4, 1, 2048, 2048]⟩
abbrev S32x4x2048x2048 : Shape := ⟨4, ![32, 4, 2048, 2048]⟩
abbrev S32x4x128x2048 : Shape := ⟨4, ![32, 4, 128, 2048]⟩
abbrev S32x2048x4 : Shape := ⟨3, ![32, 2048, 4]⟩
abbrev S32x2048x4x1 : Shape := ⟨4, ![32, 2048, 4, 1]⟩
abbrev S128 : Shape := ⟨1, ![128]⟩
abbrev S1x1x1x128 : Shape := ⟨4, ![1, 1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S32x2048x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S32x2048x4x2x64, .f32⟩
  | .hbm, ⟨9, _⟩ => ⟨S32x2048x4x2x64, .f32⟩
  | .hbm, ⟨10, _⟩ => ⟨S32x2048x4x128, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2048, .i32⟩
  | .hbm, ⟨27, _⟩ => ⟨S1x2048, .i32⟩
  | .hbm, ⟨28, _⟩ => ⟨S2048x1, .i32⟩
  | .hbm, ⟨29, _⟩ => ⟨S2048x2048, .i32⟩
  | .hbm, ⟨30, _⟩ => ⟨S2048x2048, .i32⟩
  | .hbm, ⟨31, _⟩ => ⟨S2048x2048, .i1⟩
  | .hbm, ⟨32, _⟩ => ⟨S32x4x2x2048x2048, .f32⟩
  | .hbm, ⟨33, _⟩ => ⟨S_, .f32⟩
  | .hbm, ⟨34, _⟩ => ⟨S32x4x2x2048x2048, .f32⟩
  | .hbm, ⟨35, _⟩ => ⟨S32x4x2x2048x2048, .f32⟩
  | .hbm, ⟨36, _⟩ => ⟨S_, .f32⟩
  | .hbm, ⟨37, _⟩ => ⟨S_, .f32⟩
  | .hbm, ⟨38, _⟩ => ⟨S32x4x2x2048x2048, .i1⟩
  | .hbm, ⟨39, _⟩ => ⟨S32x4x2x2048x2048, .f32⟩
  | .hbm, ⟨40, _⟩ => ⟨S32x4x2x2048x2048, .f32⟩
  | .hbm, ⟨41, _⟩ => ⟨S_, .f32⟩
  | .hbm, ⟨42, _⟩ => ⟨S32x4x2x2048, .f32⟩
  | .hbm, ⟨43, _⟩ => ⟨S_, .f32⟩
  | .hbm, ⟨44, _⟩ => ⟨S32x4x2x2048, .f32⟩
  | .hbm, ⟨45, _⟩ => ⟨S32x4x2x2048, .f32⟩
  | .hbm, ⟨46, _⟩ => ⟨S32x4x2x2048x1, .f32⟩
  | .hbm, ⟨47, _⟩ => ⟨S32x4x2x2048x2048, .f32⟩
  | .hbm, ⟨48, _⟩ => ⟨S32x4x2x2048x2048, .f32⟩
  | .hbm, ⟨49, _⟩ => ⟨S32x4x2x2048x2048, .f32⟩
  | .hbm, ⟨50, _⟩ => ⟨S_, .f32⟩
  | .hbm, ⟨51, _⟩ => ⟨S32x4x2x2048, .f32⟩
  | .hbm, ⟨52, _⟩ => ⟨S32x4x2x2048x1, .f32⟩
  | .hbm, ⟨53, _⟩ => ⟨S32x4x2x2048x2048, .f32⟩
  | .hbm, ⟨54, _⟩ => ⟨S32x4x2x2048x2048, .f32⟩
  | .hbm, ⟨55, _⟩ => ⟨S32x4x1x2048x2048, .f32⟩
  | .hbm, ⟨56, _⟩ => ⟨S32x4x2048x2048, .f32⟩
  | .hbm, ⟨57, _⟩ => ⟨S32x4x1x2048x2048, .f32⟩
  | .hbm, ⟨58, _⟩ => ⟨S32x4x2048x2048, .f32⟩
  | .hbm, ⟨59, _⟩ => ⟨S32x4x2048x2048, .f32⟩
  | .hbm, ⟨60, _⟩ => ⟨S32x4x2048x2048, .f32⟩
  | .hbm, ⟨61, _⟩ => ⟨S32x4x2048x2048, .f32⟩
  | .hbm, ⟨62, _⟩ => ⟨S32x4x128x2048, .f32⟩
  | .hbm, ⟨63, _⟩ => ⟨S32x2048x4x128, .f32⟩
  | .hbm, ⟨64, _⟩ => ⟨S32x2048x4x128, .f32⟩
  | .hbm, ⟨65, _⟩ => ⟨S_, .f32⟩
  | .hbm, ⟨66, _⟩ => ⟨S32x2048x4, .f32⟩
  | .hbm, ⟨67, _⟩ => ⟨S32x2048x4x1, .f32⟩
  | .hbm, ⟨68, _⟩ => ⟨S_, .f32⟩
  | .hbm, ⟨69, _⟩ => ⟨S32x2048x4x1, .f32⟩
  | .hbm, ⟨70, _⟩ => ⟨S32x2048x4x1, .f32⟩
  | .hbm, ⟨71, _⟩ => ⟨S_, .f32⟩
  | .hbm, ⟨72, _⟩ => ⟨S32x2048x4x1, .f32⟩
  | .hbm, ⟨73, _⟩ => ⟨S32x2048x4x1, .f32⟩
  | .hbm, ⟨74, _⟩ => ⟨S32x2048x4x1, .f32⟩
  | .hbm, ⟨75, _⟩ => ⟨S32x2048x4x128, .f32⟩
  | .hbm, ⟨76, _⟩ => ⟨S32x2048x4x128, .f32⟩
  | .hbm, ⟨77, _⟩ => ⟨S128, .f32⟩
  | .hbm, ⟨78, _⟩ => ⟨S1x1x1x128, .f32⟩
  | .hbm, ⟨79, _⟩ => ⟨S32x2048x4x128, .f32⟩
  | .hbm, ⟨80, _⟩ => ⟨S32x2048x4x128, .f32⟩
  | .hbm, ⟨81, _⟩ => ⟨S_, .f32⟩
  | .hbm, ⟨82, _⟩ => ⟨S32x2048x4x128, .f32⟩
  | .hbm, ⟨83, _⟩ => ⟨S32x2048x4x128, .f32⟩
  | .hbm, ⟨84, _⟩ => ⟨S32x2048x512, .f32⟩
  | .hbm, ⟨85, _⟩ => ⟨S32x2048x512, .bf16⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x6x1x1024 : Shape := ⟨4, ![32, 6, 1, 1024]⟩
abbrev S32x2048x512 : Shape := ⟨3, ![32, 2048, 512]⟩
abbrev S65536x1024 : Shape := ⟨2, ![65536, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S65536x512 : Shape := ⟨2, ![65536, 512]⟩
abbrev S1024 : Shape := ⟨1, ![1024]⟩
abbrev S1x1x1x1024 : Shape := ⟨4, ![1, 1, 1, 1024]⟩
abbrev S512x512 : Shape := ⟨2, ![512, 512]⟩
abbrev S1x256x1024 : Shape := ⟨3, ![1, 256, 1024]⟩
abbrev S256x512 : Shape := ⟨2, ![256, 512]⟩
abbrev S256x1024 : Shape := ⟨2, ![256, 1024]⟩
abbrev S1x1x1024 : Shape := ⟨3, ![1, 1, 1024]⟩
abbrev S1x256 : Shape := ⟨2, ![1, 256]⟩
abbrev S1x256x1 : Shape := ⟨3, ![1, 256, 1]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 27
  | .vmem => 26
  | .smem => 0
  | _ => 0

abbrev bufTy : (tb : Table) → Fin (tcTables nBuf tb) → BufTy
  | .hbm, ⟨0, _⟩ => ⟨S32x2048x1024, .f32⟩
  | .hbm, ⟨1, _⟩ => ⟨S32x6x1x1024, .f32⟩
  | .hbm, ⟨2, _⟩ => ⟨S32x2048x512, .bf16⟩
  | .hbm, ⟨3, _⟩ => ⟨S32x2048x512, .bf16⟩
  | .hbm, ⟨4, _⟩ => ⟨S65536x1024, .bf16⟩
  | .hbm, ⟨5, _⟩ => ⟨S65536x1024, .bf16⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x5632, .f32⟩
  | .hbm, ⟨11, _⟩ => ⟨S1x2816x1024, .f32⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1024x1024, .f32⟩
  | .hbm, ⟨17, _⟩ => ⟨S1024x1024, .bf16⟩
  | .hbm, ⟨18, _⟩ => ⟨S1024x5632, .f32⟩
  | .hbm, ⟨19, _⟩ => ⟨S1024x5632, .bf16⟩
  | .hbm, ⟨20, _⟩ => ⟨S2816x1024, .f32⟩
  | .hbm, ⟨21, _⟩ => ⟨S2816x1024, .bf16⟩
  | .hbm, ⟨22, _⟩ => ⟨S65536x512, .bf16⟩
  | .hbm, ⟨23, _⟩ => ⟨S65536x512, .bf16⟩
  | .hbm, ⟨24, _⟩ => ⟨S1024, .f32⟩
  | .hbm, ⟨25, _⟩ => ⟨S1x1024, .f32⟩
  | .hbm, ⟨26, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S1024x5632, .bf16⟩
  | .local _ .vmem, ⟨23, _⟩ => ⟨S2816x1024, .bf16⟩
  | .local _ .vmem, ⟨24, _⟩ => ⟨S1x512x1024, .f32⟩
  | .local _ .vmem, ⟨25, _⟩ => ⟨S1x512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg0.toNat, c5_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x5632 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S32x2048x1024 : Shape := ⟨3, ![32, 2048, 1024]⟩
abbrev S32x6x1x1024 : Shape := ⟨4, ![32, 6, 1, 1024]⟩
abbrev S32x2048x512 : Shape := ⟨3, ![32, 2048, 512]⟩
abbrev S65536x1024 : Shape := ⟨2, ![65536, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S32x1x1x1024 : Shape := ⟨4, ![32, 1, 1, 1024]⟩
abbrev S32x1x1024 : Shape := ⟨3, ![32, 1, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x5632 : Shape := ⟨2, ![1024, 5632]⟩
abbrev S32x2048x5632 : Shape := ⟨3, ![32, 2048, 5632]⟩
abbrev S32x2048x2816 : Shape := ⟨3, ![32, 2048, 2816]⟩
abbrev S2816x1024 : Shape := ⟨2, ![2816, 1024]⟩

abbrev nBuf : Space → Nat
  | .hbm => 81
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x6x1x1024, .f32⟩
  | .hbm, ⟨2, _⟩ => ⟨S32x2048x512, .bf16⟩
  | .hbm, ⟨3, _⟩ => ⟨S32x2048x512, .bf16⟩
  | .hbm, ⟨4, _⟩ => ⟨S65536x1024, .bf16⟩
  | .hbm, ⟨5, _⟩ => ⟨S65536x1024, .bf16⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x5632, .f32⟩
  | .hbm, ⟨11, _⟩ => ⟨S1x2816x1024, .f32⟩
  | .hbm, ⟨12, _⟩ => ⟨S32x1x1x1024, .f32⟩
  | .hbm, ⟨13, _⟩ => ⟨S32x1x1024, .f32⟩
  | .hbm, ⟨14, _⟩ => ⟨S32x1x1x1024, .f32⟩
  | .hbm, ⟨15, _⟩ => ⟨S32x1x1024, .f32⟩
  | .hbm, ⟨16, _⟩ => ⟨S32x1x1x1024, .f32⟩
  | .hbm, ⟨17, _⟩ => ⟨S32x1x1024, .f32⟩
  | .hbm, ⟨18, _⟩ => ⟨S32x1x1x1024, .f32⟩
  | .hbm, ⟨19, _⟩ => ⟨S32x1x1024, .f32⟩
  | .hbm, ⟨20, _⟩ => ⟨S32x2048x512, .f32⟩
  | .hbm, ⟨21, _⟩ => ⟨S32x2048x512, .f32⟩
  | .hbm, ⟨22, _⟩ => ⟨S65536x1024, .f32⟩
  | .hbm, ⟨23, _⟩ => ⟨S65536x1024, .f32⟩
  | .hbm, ⟨24, _⟩ => ⟨S512x1024, .f32⟩
  | .hbm, ⟨25, _⟩ => ⟨S32x2048x1024, .f32⟩
  | .hbm, ⟨26, _⟩ => ⟨S512x1024, .f32⟩
  | .hbm, ⟨27, _⟩ => ⟨S32x2048x1024, .f32⟩
  | .hbm, ⟨28, _⟩ => ⟨S32x2048x1024, .f32⟩
  | .hbm, ⟨29, _⟩ => ⟨S32x2048x1024, .f32⟩
  | .hbm, ⟨30, _⟩ => ⟨S32x2048x1024, .f32⟩
  | .hbm, ⟨31, _⟩ => ⟨S32x2048x1024, .f32⟩
  | .hbm, ⟨32, _⟩ => ⟨S32x2048x1024, .f32⟩
  | .hbm, ⟨33, _⟩ => ⟨S1024x1024, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S32x2048x1024, .f32⟩
  | .hbm, ⟨38, _⟩ => ⟨S1024, .f32⟩
  | .hbm, ⟨39, _⟩ => ⟨S32x2048x1024, .f32⟩
  | .hbm, ⟨40, _⟩ => ⟨S_, .f32⟩
  | .hbm, ⟨41, _⟩ => ⟨S32x2048, .f32⟩
  | .hbm, ⟨42, _⟩ => ⟨S32x2048x1, .f32⟩
  | .hbm, ⟨43, _⟩ => ⟨S_, .f32⟩
  | .hbm, ⟨44, _⟩ => ⟨S32x2048x1, .f32⟩
  | .hbm, ⟨45, _⟩ => ⟨S32x2048x1, .f32⟩
  | .hbm, ⟨46, _⟩ => ⟨S_, .f32⟩
  | .hbm, ⟨47, _⟩ => ⟨S32x2048x1, .f32⟩
  | .hbm, ⟨48, _⟩ => ⟨S32x2048x1, .f32⟩
  | .hbm, ⟨49, _⟩ => ⟨S32x2048x1, .f32⟩
  | .hbm, ⟨50, _⟩ => ⟨S32x2048x1024, .f32⟩
  | .hbm, ⟨51, _⟩ => ⟨S32x2048x1024, .f32⟩
  | .hbm, ⟨52, _⟩ => ⟨S1x1x1024, .f32⟩
  | .hbm, ⟨53, _⟩ => ⟨S32x2048x1024, .f32⟩
  | .hbm, ⟨54, _⟩ => ⟨S32x2048x1024, .f32⟩
  | .hbm, ⟨55, _⟩ => ⟨S_, .f32⟩
  | .hbm, ⟨56, _⟩ => ⟨S32x1x1024, .f32⟩
  | .hbm, ⟨57, _⟩ => ⟨S32x1x1024, .f32⟩
  | .hbm, ⟨58, _⟩ => ⟨S32x2048x1024, .f32⟩
  | .hbm, ⟨59, _⟩ => ⟨S32x2048x1024, .f32⟩
  | .hbm, ⟨60, _⟩ => ⟨S32x2048x1024, .f32⟩
  | .hbm, ⟨61, _⟩ => ⟨S32x2048x1024, .f32⟩
  | .hbm, ⟨62, _⟩ => ⟨S1024x5632, .f32⟩
  | .hbm, ⟨63, _⟩ => ⟨S32x2048x5632, .f32⟩
  | .hbm, ⟨64, _⟩ => ⟨S32x2048x2816, .f32⟩
  | .hbm, ⟨65, _⟩ => ⟨S32x2048x2816, .f32⟩
  | .hbm, ⟨66, _⟩ => ⟨S32x2048x2816, .f32⟩
  | .hbm, ⟨67, _⟩ => ⟨S_, .f32⟩
  | .hbm, ⟨68, _⟩ => ⟨S32x2048x2816, .f32⟩
  | .hbm, ⟨69, _⟩ => ⟨S32x2048x2816, .f32⟩
  | .hbm, ⟨70, _⟩ => ⟨S_, .f32⟩
  | .hbm, ⟨71, _⟩ => ⟨S32x2048x2816, .f32⟩
  | .hbm, ⟨72, _⟩ => ⟨S32x2048x2816, .f32⟩
  | .hbm, ⟨73, _⟩ => ⟨S32x2048x2816, .f32⟩
  | .hbm, ⟨74, _⟩ => ⟨S32x2048x2816, .f32⟩
  | .hbm, ⟨75, _⟩ => ⟨S32x2048x2816, .f32⟩
  | .hbm, ⟨76, _⟩ => ⟨S2816x1024, .f32⟩
  | .hbm, ⟨77, _⟩ => ⟨S32x2048x1024, .f32⟩
  | .hbm, ⟨78, _⟩ => ⟨S32x2048x1024, .f32⟩
  | .hbm, ⟨79, _⟩ => ⟨S32x2048x1024, .f32⟩
  | .hbm, ⟨80, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_cst_0 : Ref sig .tc := ⟨.hbm, 43, rfl⟩
abbrev main_v30 : Ref sig .tc := ⟨.hbm, 44, rfl⟩
abbrev main_v31 : Ref sig .tc := ⟨.hbm, 45, rfl⟩
abbrev main_cst_1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_2 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== Proof.KernelFrame.lean ====
/- The program `Kernel`: its body at every grid point and its run (hand-written). -/
module

public import proofs.«01_k».proof.Proof.KernelRun
public import proofs.«01_k».proof.Proof.Gen.Kernel.Points
public import Idealize.ShloMosaic.Lib.Pipeline.Frame
public import Idealize.ShloMosaic.Lib.Pipeline.FrameBody

@[expose] public section

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on whole operands -/

/-- `good` holds of the block the body leaves in the result's buffer at the grid coordinates `i`, from operands holding
    the blocks `x2` to `x9`, whatever the result's buffer and the scratch hold. -/
def Leaves (c : Dev nD) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 : S1x2048x512.Idx → Elt F .bf16) (x4 : S1x2048x512.Idx → Elt F .bf16) (x5 : S1x64.Idx → Elt F .f32) (x6 : S1x64.Idx → Elt F .f32) (x7 : S1x64.Idx → Elt F .f32) (x8 : S1x64.Idx → Elt F .f32) (x9 : S1x128.Idx → Elt F .f32) (good : (S1x512x512.Idx → Elt F .bf16) → Prop) : Prop :=
  ∀ (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty),
    good (arg10.view.read (Elt F) (arg10.view.writes (Elt F) f10 (bodyRun Variants.none c none i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg5.unread x5) (harg6.unread x6) (harg7.unread x7) (harg8.unread x8) (harg9.unread x9) f10 f11 f12 f13 f14 f15).1))

/-- The body from its operands' blocks: the operands keep them, the result's buffer ends at a block of which `good`
    holds, the scratch at some contents. -/
theorem body_triple (c : Dev nD) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 : S1x2048x512.Idx → Elt F .bf16) (x4 : S1x2048x512.Idx → Elt F .bf16) (x5 : S1x64.Idx → Elt F .f32) (x6 : S1x64.Idx → Elt F .f32) (x7 : S1x64.Idx → Elt F .f32) (x8 : S1x64.Idx → Elt F .f32) (x9 : S1x128.Idx → Elt F .f32) (good : (S1x512x512.Idx → Elt F .bf16) → Prop)
    (hgood : Leaves c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 good) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, ⌜good d⌝ ∗ owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none (c : Thread nD τ) none) Set.univ (cc0_attn_prompt (F := F) i arg2 harg2 arg3 harg3 arg4 harg4 arg5 harg5 arg6 harg6 arg7 harg7 arg8 harg8 arg9 harg9 arg10 harg10 arg11 harg11 arg12 harg12 arg13 harg13 arg14 harg14 arg15 harg15) K := by
  unfold owns
  iintro ⟨⟨%g2, %h2, H2⟩, ⟨%g3, %h3, H3⟩, ⟨%g4, %h4, H4⟩, ⟨%g5, %h5, H5⟩, ⟨%g6, %h6, H6⟩, ⟨%g7, %h7, H7⟩, ⟨%g8, %h8, H8⟩, ⟨%g9, %h9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg8.eq_unread h8
  obtain rfl := harg9.eq_unread h9
  have hg := hgood f10 f11 f12 f13 f14 f15
  iapply (wp_wand_r frame _ _)
  isplitl [H2 H3 H4 H5 H6 H7 H8 H9 H10 H11 H12 H13 H14 H15]
  · iapply ((bodyRun Variants.none c none i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg5.unread x5) (harg6.unread x6) (harg7.unread x7) (harg8.unread x8) (harg9.unread x9) f10 f11 f12 f13 f14 f15).2 Set.univ)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro %_ ⟨H2, H3, H4, H5, H6, H7, H8, H9, H10, ⟨%e11, H11⟩, ⟨%e12, H12⟩, ⟨%e13, H13⟩, ⟨%e14, H14⟩, ⟨%e15, H15⟩⟩
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact hg
    iexists _; isplitr; · ipureintro; rfl
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

variable (m : (ℓ : Loc nD τ sig) → Buf (Elt F) ℓ) (ρ : Dev nD → PrngReg)

/-! ## The body at a grid point -/

/-- `good` holds of the block the body leaves in the result's buffer at the grid point `t`. -/
abbrev LeavesAt (c : Dev nD) (t : Fin cfg0.N) (good : (S1x512x512.Idx → Elt F .bf16) → Prop) : Prop :=
  Leaves c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) good

/-- The body at a grid point, from the windows' blocks: the blocks stay, the result's buffer ends at a good block. -/
theorem point_triple (c : Dev nD) (t : Fin cfg0.N) (good : (S1x512x512.Idx → Elt F .bf16) → Prop) (hgood : LeavesAt m c t good) (R : sProp 𝕄) :
    iprop(Pipeline.ΦA spec0 c ∗ R ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ (∃ d, owns (c : Thread nD τ) (win0_8.stage (cfg0.slots t 8)) fullShare d))
      ⊢ wp frame (wpE (defs₀ (F := F)) Variants.none (c : Thread nD τ) none) Set.univ (bodyAt0 t)
        (fun _ => iprop(Pipeline.ΦA spec0 c ∗ R ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ (∃ d, ⌜good d⌝ ∗ owns (c : Thread nD τ) (win0_8.stage (cfg0.slots t 8)) fullShare d))) := by
  unfold Pipeline.ΦA bodyAt0
  rw [scopedRest0_eq]
  iintro ⟨⟨⟨⟨%f11, H11⟩, ⟨%f12, H12⟩, ⟨%f13, H13⟩, ⟨%f14, H14⟩, ⟨%f15, H15⟩⟩, HG⟩, HR, H2, H3, H4, H5, H6, H7, H8, H9, H10⟩
  iapply (body_triple c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) good hgood)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists f11; rw [owns_whole]; iexact H11
  isplitl [H12]; · iexists f12; rw [owns_whole]; iexact H12
  isplitl [H13]; · iexists f13; rw [owns_whole]; iexact H13
  isplitl [H14]; · iexists f14; rw [owns_whole]; iexact H14
  isplitl [H15]; · iexists f15; rw [owns_whole]; iexact H15
  iintro ⟨H2, H3, H4, H5, H6, H7, H8, H9, H10, ⟨%e11, H11⟩, ⟨%e12, H12⟩, ⟨%e13, H13⟩, ⟨%e14, H14⟩, ⟨%e15, H15⟩⟩
  simp only [owns_whole]
  isplitl [H11 H12 H13 H14 H15 HG]
  · isplitr [HG]
    · isplitl [H11]; · iexists _; iexact H11
      isplitl [H12]; · iexists _; iexact H12
      isplitl [H13]; · iexists _; iexact H13
      isplitl [H14]; · iexists _; iexact H14
      iexists _; iexact H15
    iexact HG
  isplitl [HR]; · iexact HR
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at a grid point is the body at the point's buffers. -/
theorem defs₀_row (t : Fin cfg0.N) : defs₀ (F := F) .tc cfg0.body (cfg0.bodyArgs t (cfg0.slots t)) = bodyAt0 t := by
  unfold defs₀; rw [Defs.onTc_tc]

/-! ## The run with nothing said of the result -/

/-- The result's window is the one whose contents are not named. -/
def forgets (w : Fin 9) : Bool := decide (w = 8)

/-- The arrays as the region finds them, the operands' blocks in place, the result's contents not named. -/
def datF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

theorem datF_A (c : Dev nD) (w : Fin cfg0.W) : (datF m 0 c).A w = V m c (Pipeline.arrRef spec0 w) := by dsimp only [datF]
theorem datF_before0 (c : Dev nD) (t : Fin cfg0.N) (d) : (datF m 0 c).before 0 t d = iblk m c 0 t :=
  before0_0_of m (datF m 0 c) (datF_A m c 0) (fun t => by dsimp only [datF]) t d
theorem datF_after0 (c : Dev nD) (t : Fin cfg0.N) : (datF m 0 c).after 0 t = iblk m c 0 t := by dsimp only [datF]
theorem datF_before1 (c : Dev nD) (t : Fin cfg0.N) (d) : (datF m 0 c).before 1 t d = iblk m c 1 t :=
  before0_1_of m (datF m 0 c) (datF_A m c 1) (fun t => by dsimp only [datF]) t d
theorem datF_after1 (c : Dev nD) (t : Fin cfg0.N) : (datF m 0 c).after 1 t = iblk m c 1 t := by dsimp only [datF]
theorem datF_before2 (c : Dev nD) (t : Fin cfg0.N) (d) : (datF m 0 c).before 2 t d = iblk m c 2 t :=
  before0_2_of m (datF m 0 c) (datF_A m c 2) (fun t => by dsimp only [datF]) t d
theorem datF_after2 (c : Dev nD) (t : Fin cfg0.N) : (datF m 0 c).after 2 t = iblk m c 2 t := by dsimp only [datF]
theorem datF_before3 (c : Dev nD) (t : Fin cfg0.N) (d) : (datF m 0 c).before 3 t d = iblk m c 3 t :=
  before0_3_of m (datF m 0 c) (datF_A m c 3) (fun t => by dsimp only [datF]) t d
theorem datF_after3 (c : Dev nD) (t : Fin cfg0.N) : (datF m 0 c).after 3 t = iblk m c 3 t := by dsimp only [datF]
theorem datF_before4 (c : Dev nD) (t : Fin cfg0.N) (d) : (datF m 0 c).before 4 t d = iblk m c 4 t :=
  before0_4_of m (datF m 0 c) (datF_A m c 4) (fun t => by dsimp only [datF]) t d
theorem datF_after4 (c : Dev nD) (t : Fin cfg0.N) : (datF m 0 c).after 4 t = iblk m c 4 t := by dsimp only [datF]
theorem datF_before5 (c : Dev nD) (t : Fin cfg0.N) (d) : (datF m 0 c).before 5 t d = iblk m c 5 t :=
  before0_5_of m (datF m 0 c) (datF_A m c 5) (fun t => by dsimp only [datF]) t d
theorem datF_after5 (c : Dev nD) (t : Fin cfg0.N) : (datF m 0 c).after 5 t = iblk m c 5 t := by dsimp only [datF]
theorem datF_before6 (c : Dev nD) (t : Fin cfg0.N) (d) : (datF m 0 c).before 6 t d = iblk m c 6 t :=
  before0_6_of m (datF m 0 c) (datF_A m c 6) (fun t => by dsimp only [datF]) t d
theorem datF_after6 (c : Dev nD) (t : Fin cfg0.N) : (datF m 0 c).after 6 t = iblk m c 6 t := by dsimp only [datF]
theorem datF_before7 (c : Dev nD) (t : Fin cfg0.N) (d) : (datF m 0 c).before 7 t d = iblk m c 7 t :=
  before0_7_of m (datF m 0 c) (datF_A m c 7) (fun t => by dsimp only [datF]) t d
theorem datF_after7 (c : Dev nD) (t : Fin cfg0.N) : (datF m 0 c).after 7 t = iblk m c 7 t := by dsimp only [datF]

theorem datF_body (c : Dev nD) : BodyObligation (datF (F := F) m 0 c) (defs₀ (F := F)) Variants.none () Set.univ forgets := fun t => by
  rw [bigSep_W0, bigSep_W0, defs₀_row]
  refine triple_restated (point_triple m c t (fun _ => True) (fun _ _ _ _ _ _ => trivial) ((datF m 0 c).owesAt () t.castSucc)) rfl ?_ fun _ => ?_
  · rw [show (datF m 0 c).Φ t.castSucc = Pipeline.ΦA spec0 c from rfl]
    simp only [show forgets 0 = false from rfl, show forgets 1 = false from rfl, show forgets 2 = false from rfl, show forgets 3 = false from rfl, show forgets 4 = false from rfl, show forgets 5 = false from rfl, show forgets 6 = false from rfl, show forgets 7 = false from rfl, show forgets 8 = true from rfl, datF_before0, datF_before1, datF_before2, datF_before3, datF_before4, datF_before5, datF_before6, datF_before7]
    iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, H8⟩
    isplitl [HP]; · iexact HP
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [show (datF m 0 c).Φ t.succ = Pipeline.ΦA spec0 c from rfl,
      show (datF m 0 c).owesAt () t.succ = (datF m 0 c).owesAt () t.castSucc from rfl]
    simp only [show forgets 0 = false from rfl, show forgets 1 = false from rfl, show forgets 2 = false from rfl, show forgets 3 = false from rfl, show forgets 4 = false from rfl, show forgets 5 = false from rfl, show forgets 6 = false from rfl, show forgets 7 = false from rfl, show forgets 8 = true from rfl, datF_after0, datF_after1, datF_after2, datF_after3, datF_after4, datF_after5, datF_after6, datF_after7]
    iintro ⟨HP, HO, H0, H1, H2, H3, H4, H5, H6, H7, ⟨%d8, -, H8⟩⟩
    isplitl [HP]; · iexact HP
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8

set_option backward.isDefEq.respectTransparency.types false in
/-- The run: @main ends, the operands' arrays as the region found them, the counters at zero. -/
theorem run_forget :
    θ_run defs (onTc (τ := τ) (main (F := F))) (s₀ m ρ)
      (fun r => Pipeline.RDat.FramePost (cfgs 0) (fun c => (datF m 0 c).toRForget forgets) (V m) r ∧ r.2.sem = fun _ => 0) :=
  Pipeline.θ_run_frame_forget (Q' := _) cfgs (datF m) (0 : Fin 1) launch0 defs₀ Variants.none forgets m ρ main
    (hbody := fun c => (datF_body m c).loose) (hshare := fun c => (datF m 0 c).share_full fun _ => rfl)
    (howed := fun _ _ => rfl) (V := V m) (hmain := hmain m Variants.none) (hA := datF_A m) (hΦ := fun _ _ => rfl)

/-- The frame: after every run the eight arguments hold what they held and every counter is at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) :=
  (θ_run defs _ _).mono (fun r h => ⟨fun c =>
    ⟨((by have h0 := (h.1 c).1 0; rw [Pipeline.RDat.ArrAt_in _ (0 : Fin cfg0.W) rfl] at h0; exact h0 : r.2.mem ((c.tc : Thread nD τ).loc main_arg0) = V m c main_arg0)).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩) (run_forget m ρ)

end Cert.Kernel.Attn

end
-- ==== Proof.KernelIdealRun.lean ====
/- The body of the attention call of `KernelIdeal` at one grid point, run once at symbolic operands (hand-written). -/
module

public import proofs.«01_k».proof.Proof.Gen.KernelIdeal.Loops
public import proofs.«01_k».proof.Proof.Gen.KernelIdeal.Frame
public import Idealize.ShloMosaic.Lib.LoopRemainder

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option warn.classDefReducibility false in
/-- The loop over the earlier key blocks by its invariant, at fixed values of two parameters that its region does not use. -/
@[sl_loop] def loopInvA (𝒱 : Variants) (c : Dev nD) (bd : Option 𝒱.V) (E : Set ℕ) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (X3 : BufTy.Contents (Elt F) arg3.view.ty) (X4 : BufTy.Contents (Elt F) arg4.view.ty) (X11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) :=
  loopInv_k0_t1 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 (0#32) (constant S4x128x1024 .f32 0#32) X3 X4 X11 G12 G13 G14 G15

/-- The body at a symbolic grid point, from any contents of its operands and scratch: the operands come back as they
    were, the result block with the pieces the body stored into it, the scratch at some contents. -/
@[irreducible] def bodyRun (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) :
    { L : List (View.Piece (Elt F) S1x512x512 .bf16) // ∀ E : Set ℕ,
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp (MT nD τ sig Unit (Elt F) ℕ (UR sig nD τ) ℕ))
      ⊢ wp frame (wpE (defs₀ (F := F)) 𝒱 (c : Thread nD τ) bd) E (cc0_attn_prompt (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} (arg10.view.writes (Elt F) f10 L)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))) } := by
  refine ⟨?_, fun E => ?run⟩
  case run =>
    iintro ⟨H2, H3, H4, H5, H6, H7, H8, H9, H10, H11, H12, H13, H14, H15⟩
    simp only [cc0_attn_prompt_eq_skeleton]; unfold cc0_attn_prompt_skel
    sl_exec
    sl_step
    sl_close

end Cert.KernelIdeal.Attn

end
-- ==== Proof.KernelIdealFrame.lean ====
/- The program `KernelIdeal`: its body at every grid point and its run (hand-written). -/
module

public import proofs.«01_k».proof.Proof.KernelIdealRun
public import proofs.«01_k».proof.Proof.Gen.KernelIdeal.Points
public import Idealize.ShloMosaic.Lib.Pipeline.Frame
public import Idealize.ShloMosaic.Lib.Pipeline.FrameBody

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body on whole operands -/

/-- `good` holds of the block the body leaves in the result's buffer at the grid coordinates `i`, from operands holding
    the blocks `x2` to `x9`, whatever the result's buffer and the scratch hold. -/
def Leaves (c : Dev nD) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 : S1x2048x512.Idx → Elt F .bf16) (x4 : S1x2048x512.Idx → Elt F .bf16) (x5 : S1x64.Idx → Elt F .f32) (x6 : S1x64.Idx → Elt F .f32) (x7 : S1x64.Idx → Elt F .f32) (x8 : S1x64.Idx → Elt F .f32) (x9 : S1x128.Idx → Elt F .f32) (good : (S1x512x512.Idx → Elt F .bf16) → Prop) : Prop :=
  ∀ (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty),
    good (arg10.view.read (Elt F) (arg10.view.writes (Elt F) f10 (bodyRun Variants.none c none i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg5.unread x5) (harg6.unread x6) (harg7.unread x7) (harg8.unread x8) (harg9.unread x9) f10 f11 f12 f13 f14 f15).1))

/-- The body from its operands' blocks: the operands keep them, the result's buffer ends at a block of which `good`
    holds, the scratch at some contents. -/
theorem body_triple (c : Dev nD) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 : S1x2048x512.Idx → Elt F .bf16) (x4 : S1x2048x512.Idx → Elt F .bf16) (x5 : S1x64.Idx → Elt F .f32) (x6 : S1x64.Idx → Elt F .f32) (x7 : S1x64.Idx → Elt F .f32) (x8 : S1x64.Idx → Elt F .f32) (x9 : S1x128.Idx → Elt F .f32) (good : (S1x512x512.Idx → Elt F .bf16) → Prop)
    (hgood : Leaves c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 good) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, ⌜good d⌝ ∗ owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none (c : Thread nD τ) none) Set.univ (cc0_attn_prompt (F := F) i arg2 harg2 arg3 harg3 arg4 harg4 arg5 harg5 arg6 harg6 arg7 harg7 arg8 harg8 arg9 harg9 arg10 harg10 arg11 harg11 arg12 harg12 arg13 harg13 arg14 harg14 arg15 harg15) K := by
  unfold owns
  iintro ⟨⟨%g2, %h2, H2⟩, ⟨%g3, %h3, H3⟩, ⟨%g4, %h4, H4⟩, ⟨%g5, %h5, H5⟩, ⟨%g6, %h6, H6⟩, ⟨%g7, %h7, H7⟩, ⟨%g8, %h8, H8⟩, ⟨%g9, %h9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg8.eq_unread h8
  obtain rfl := harg9.eq_unread h9
  have hg := hgood f10 f11 f12 f13 f14 f15
  iapply (wp_wand_r frame _ _)
  isplitl [H2 H3 H4 H5 H6 H7 H8 H9 H10 H11 H12 H13 H14 H15]
  · iapply ((bodyRun Variants.none c none i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg5.unread x5) (harg6.unread x6) (harg7.unread x7) (harg8.unread x8) (harg9.unread x9) f10 f11 f12 f13 f14 f15).2 Set.univ)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro %_ ⟨H2, H3, H4, H5, H6, H7, H8, H9, H10, ⟨%e11, H11⟩, ⟨%e12, H12⟩, ⟨%e13, H13⟩, ⟨%e14, H14⟩, ⟨%e15, H15⟩⟩
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact hg
    iexists _; isplitr; · ipureintro; rfl
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

variable (m : (ℓ : Loc nD τ sig) → Buf (Elt F) ℓ) (ρ : Dev nD → PrngReg)

/-! ## The body at a grid point -/

/-- `good` holds of the block the body leaves in the result's buffer at the grid point `t`. -/
abbrev LeavesAt (c : Dev nD) (t : Fin cfg0.N) (good : (S1x512x512.Idx → Elt F .bf16) → Prop) : Prop :=
  Leaves c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) good

/-- The body at a grid point, from the windows' blocks: the blocks stay, the result's buffer ends at a good block. -/
theorem point_triple (c : Dev nD) (t : Fin cfg0.N) (good : (S1x512x512.Idx → Elt F .bf16) → Prop) (hgood : LeavesAt m c t good) (R : sProp 𝕄) :
    iprop(Pipeline.ΦA spec0 c ∗ R ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ (∃ d, owns (c : Thread nD τ) (win0_8.stage (cfg0.slots t 8)) fullShare d))
      ⊢ wp frame (wpE (defs₀ (F := F)) Variants.none (c : Thread nD τ) none) Set.univ (bodyAt0 t)
        (fun _ => iprop(Pipeline.ΦA spec0 c ∗ R ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ (∃ d, ⌜good d⌝ ∗ owns (c : Thread nD τ) (win0_8.stage (cfg0.slots t 8)) fullShare d))) := by
  unfold Pipeline.ΦA bodyAt0
  rw [scopedRest0_eq]
  iintro ⟨⟨⟨⟨%f11, H11⟩, ⟨%f12, H12⟩, ⟨%f13, H13⟩, ⟨%f14, H14⟩, ⟨%f15, H15⟩⟩, HG⟩, HR, H2, H3, H4, H5, H6, H7, H8, H9, H10⟩
  iapply (body_triple c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) good hgood)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists f11; rw [owns_whole]; iexact H11
  isplitl [H12]; · iexists f12; rw [owns_whole]; iexact H12
  isplitl [H13]; · iexists f13; rw [owns_whole]; iexact H13
  isplitl [H14]; · iexists f14; rw [owns_whole]; iexact H14
  isplitl [H15]; · iexists f15; rw [owns_whole]; iexact H15
  iintro ⟨H2, H3, H4, H5, H6, H7, H8, H9, H10, ⟨%e11, H11⟩, ⟨%e12, H12⟩, ⟨%e13, H13⟩, ⟨%e14, H14⟩, ⟨%e15, H15⟩⟩
  simp only [owns_whole]
  isplitl [H11 H12 H13 H14 H15 HG]
  · isplitr [HG]
    · isplitl [H11]; · iexists _; iexact H11
      isplitl [H12]; · iexists _; iexact H12
      isplitl [H13]; · iexists _; iexact H13
      isplitl [H14]; · iexists _; iexact H14
      iexists _; iexact H15
    iexact HG
  isplitl [HR]; · iexact HR
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at a grid point is the body at the point's buffers. -/
theorem defs₀_row (t : Fin cfg0.N) : defs₀ (F := F) .tc cfg0.body (cfg0.bodyArgs t (cfg0.slots t)) = bodyAt0 t := by
  unfold defs₀; rw [Defs.onTc_tc]

/-! ## The run with nothing said of the result -/

/-- The result's window is the one whose contents are not named. -/
def forgets (w : Fin 9) : Bool := decide (w = 8)

/-- The arrays as the region finds them, the operands' blocks in place, the result's contents not named. -/
def datF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

theorem datF_A (c : Dev nD) (w : Fin cfg0.W) : (datF m 0 c).A w = V m c (Pipeline.arrRef spec0 w) := by dsimp only [datF]
theorem datF_before0 (c : Dev nD) (t : Fin cfg0.N) (d) : (datF m 0 c).before 0 t d = iblk m c 0 t :=
  before0_0_of m (datF m 0 c) (datF_A m c 0) (fun t => by dsimp only [datF]) t d
theorem datF_after0 (c : Dev nD) (t : Fin cfg0.N) : (datF m 0 c).after 0 t = iblk m c 0 t := by dsimp only [datF]
theorem datF_before1 (c : Dev nD) (t : Fin cfg0.N) (d) : (datF m 0 c).before 1 t d = iblk m c 1 t :=
  before0_1_of m (datF m 0 c) (datF_A m c 1) (fun t => by dsimp only [datF]) t d
theorem datF_after1 (c : Dev nD) (t : Fin cfg0.N) : (datF m 0 c).after 1 t = iblk m c 1 t := by dsimp only [datF]
theorem datF_before2 (c : Dev nD) (t : Fin cfg0.N) (d) : (datF m 0 c).before 2 t d = iblk m c 2 t :=
  before0_2_of m (datF m 0 c) (datF_A m c 2) (fun t => by dsimp only [datF]) t d
theorem datF_after2 (c : Dev nD) (t : Fin cfg0.N) : (datF m 0 c).after 2 t = iblk m c 2 t := by dsimp only [datF]
theorem datF_before3 (c : Dev nD) (t : Fin cfg0.N) (d) : (datF m 0 c).before 3 t d = iblk m c 3 t :=
  before0_3_of m (datF m 0 c) (datF_A m c 3) (fun t => by dsimp only [datF]) t d
theorem datF_after3 (c : Dev nD) (t : Fin cfg0.N) : (datF m 0 c).after 3 t = iblk m c 3 t := by dsimp only [datF]
theorem datF_before4 (c : Dev nD) (t : Fin cfg0.N) (d) : (datF m 0 c).before 4 t d = iblk m c 4 t :=
  before0_4_of m (datF m 0 c) (datF_A m c 4) (fun t => by dsimp only [datF]) t d
theorem datF_after4 (c : Dev nD) (t : Fin cfg0.N) : (datF m 0 c).after 4 t = iblk m c 4 t := by dsimp only [datF]
theorem datF_before5 (c : Dev nD) (t : Fin cfg0.N) (d) : (datF m 0 c).before 5 t d = iblk m c 5 t :=
  before0_5_of m (datF m 0 c) (datF_A m c 5) (fun t => by dsimp only [datF]) t d
theorem datF_after5 (c : Dev nD) (t : Fin cfg0.N) : (datF m 0 c).after 5 t = iblk m c 5 t := by dsimp only [datF]
theorem datF_before6 (c : Dev nD) (t : Fin cfg0.N) (d) : (datF m 0 c).before 6 t d = iblk m c 6 t :=
  before0_6_of m (datF m 0 c) (datF_A m c 6) (fun t => by dsimp only [datF]) t d
theorem datF_after6 (c : Dev nD) (t : Fin cfg0.N) : (datF m 0 c).after 6 t = iblk m c 6 t := by dsimp only [datF]
theorem datF_before7 (c : Dev nD) (t : Fin cfg0.N) (d) : (datF m 0 c).before 7 t d = iblk m c 7 t :=
  before0_7_of m (datF m 0 c) (datF_A m c 7) (fun t => by dsimp only [datF]) t d
theorem datF_after7 (c : Dev nD) (t : Fin cfg0.N) : (datF m 0 c).after 7 t = iblk m c 7 t := by dsimp only [datF]

theorem datF_body (c : Dev nD) : BodyObligation (datF (F := F) m 0 c) (defs₀ (F := F)) Variants.none () Set.univ forgets := fun t => by
  rw [bigSep_W0, bigSep_W0, defs₀_row]
  refine triple_restated (point_triple m c t (fun _ => True) (fun _ _ _ _ _ _ => trivial) ((datF m 0 c).owesAt () t.castSucc)) rfl ?_ fun _ => ?_
  · rw [show (datF m 0 c).Φ t.castSucc = Pipeline.ΦA spec0 c from rfl]
    simp only [show forgets 0 = false from rfl, show forgets 1 = false from rfl, show forgets 2 = false from rfl, show forgets 3 = false from rfl, show forgets 4 = false from rfl, show forgets 5 = false from rfl, show forgets 6 = false from rfl, show forgets 7 = false from rfl, show forgets 8 = true from rfl, datF_before0, datF_before1, datF_before2, datF_before3, datF_before4, datF_before5, datF_before6, datF_before7]
    iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, H8⟩
    isplitl [HP]; · iexact HP
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [show (datF m 0 c).Φ t.succ = Pipeline.ΦA spec0 c from rfl,
      show (datF m 0 c).owesAt () t.succ = (datF m 0 c).owesAt () t.castSucc from rfl]
    simp only [show forgets 0 = false from rfl, show forgets 1 = false from rfl, show forgets 2 = false from rfl, show forgets 3 = false from rfl, show forgets 4 = false from rfl, show forgets 5 = false from rfl, show forgets 6 = false from rfl, show forgets 7 = false from rfl, show forgets 8 = true from rfl, datF_after0, datF_after1, datF_after2, datF_after3, datF_after4, datF_after5, datF_after6, datF_after7]
    iintro ⟨HP, HO, H0, H1, H2, H3, H4, H5, H6, H7, ⟨%d8, -, H8⟩⟩
    isplitl [HP]; · iexact HP
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8

set_option backward.isDefEq.respectTransparency.types false in
/-- The run: @main ends, the operands' arrays as the region found them, the counters at zero. -/
theorem run_forget :
    θ_run defs (onTc (τ := τ) (main (F := F))) (s₀ m ρ)
      (fun r => Pipeline.RDat.FramePost (cfgs 0) (fun c => (datF m 0 c).toRForget forgets) (V m) r ∧ r.2.sem = fun _ => 0) :=
  Pipeline.θ_run_frame_forget (Q' := _) cfgs (datF m) (0 : Fin 1) launch0 defs₀ Variants.none forgets m ρ main
    (hbody := fun c => (datF_body m c).loose) (hshare := fun c => (datF m 0 c).share_full fun _ => rfl)
    (howed := fun _ _ => rfl) (V := V m) (hmain := hmain m Variants.none) (hA := datF_A m) (hΦ := fun _ _ => rfl)

/-- The frame: after every run the eight arguments hold what they held and every counter is at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) :=
  (θ_run defs _ _).mono (fun r h => ⟨fun c =>
    ⟨((by have h0 := (h.1 c).1 0; rw [Pipeline.RDat.ArrAt_in _ (0 : Fin cfg0.W) rfl] at h0; exact h0 : r.2.mem ((c.tc : Thread nD τ).loc main_arg0) = V m c main_arg0)).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩) (run_forget m ρ)

/-! ## The run with the result's blocks named -/

/-- The arrays as the region finds them, the operands' blocks in place, the result's block at a grid point at `O`. -/
def datV (O : (c : Dev nD) → Fin cfg0.N → S1x512x512.Idx → Elt F .bf16) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => O c t
  Φ _ := Pipeline.ΦA spec0 c
  q _ := fullShare
  owed _ := 0

variable (O : (c : Dev nD) → Fin cfg0.N → S1x512x512.Idx → Elt F .bf16)

theorem datV_A (c : Dev nD) (w : Fin cfg0.W) : (datV m O 0 c).A w = V m c (Pipeline.arrRef spec0 w) := by dsimp only [datV]
theorem datV_before0 (c : Dev nD) (t : Fin cfg0.N) (d) : (datV m O 0 c).before 0 t d = iblk m c 0 t :=
  before0_0_of m (datV m O 0 c) (datV_A m O c 0) (fun t => by dsimp only [datV]) t d
theorem datV_after0 (c : Dev nD) (t : Fin cfg0.N) : (datV m O 0 c).after 0 t = iblk m c 0 t := by dsimp only [datV]
theorem datV_before1 (c : Dev nD) (t : Fin cfg0.N) (d) : (datV m O 0 c).before 1 t d = iblk m c 1 t :=
  before0_1_of m (datV m O 0 c) (datV_A m O c 1) (fun t => by dsimp only [datV]) t d
theorem datV_after1 (c : Dev nD) (t : Fin cfg0.N) : (datV m O 0 c).after 1 t = iblk m c 1 t := by dsimp only [datV]
theorem datV_before2 (c : Dev nD) (t : Fin cfg0.N) (d) : (datV m O 0 c).before 2 t d = iblk m c 2 t :=
  before0_2_of m (datV m O 0 c) (datV_A m O c 2) (fun t => by dsimp only [datV]) t d
theorem datV_after2 (c : Dev nD) (t : Fin cfg0.N) : (datV m O 0 c).after 2 t = iblk m c 2 t := by dsimp only [datV]
theorem datV_before3 (c : Dev nD) (t : Fin cfg0.N) (d) : (datV m O 0 c).before 3 t d = iblk m c 3 t :=
  before0_3_of m (datV m O 0 c) (datV_A m O c 3) (fun t => by dsimp only [datV]) t d
theorem datV_after3 (c : Dev nD) (t : Fin cfg0.N) : (datV m O 0 c).after 3 t = iblk m c 3 t := by dsimp only [datV]
theorem datV_before4 (c : Dev nD) (t : Fin cfg0.N) (d) : (datV m O 0 c).before 4 t d = iblk m c 4 t :=
  before0_4_of m (datV m O 0 c) (datV_A m O c 4) (fun t => by dsimp only [datV]) t d
theorem datV_after4 (c : Dev nD) (t : Fin cfg0.N) : (datV m O 0 c).after 4 t = iblk m c 4 t := by dsimp only [datV]
theorem datV_before5 (c : Dev nD) (t : Fin cfg0.N) (d) : (datV m O 0 c).before 5 t d = iblk m c 5 t :=
  before0_5_of m (datV m O 0 c) (datV_A m O c 5) (fun t => by dsimp only [datV]) t d
theorem datV_after5 (c : Dev nD) (t : Fin cfg0.N) : (datV m O 0 c).after 5 t = iblk m c 5 t := by dsimp only [datV]
theorem datV_before6 (c : Dev nD) (t : Fin cfg0.N) (d) : (datV m O 0 c).before 6 t d = iblk m c 6 t :=
  before0_6_of m (datV m O 0 c) (datV_A m O c 6) (fun t => by dsimp only [datV]) t d
theorem datV_after6 (c : Dev nD) (t : Fin cfg0.N) : (datV m O 0 c).after 6 t = iblk m c 6 t := by dsimp only [datV]
theorem datV_before7 (c : Dev nD) (t : Fin cfg0.N) (d) : (datV m O 0 c).before 7 t d = iblk m c 7 t :=
  before0_7_of m (datV m O 0 c) (datV_A m O c 7) (fun t => by dsimp only [datV]) t d
theorem datV_after7 (c : Dev nD) (t : Fin cfg0.N) : (datV m O 0 c).after 7 t = iblk m c 7 t := by dsimp only [datV]
theorem datV_after8 (c : Dev nD) (t : Fin cfg0.N) : (datV m O 0 c).after 8 t = O c t := by dsimp only [datV]

theorem datV_body (hO : ∀ (c : Dev nD) (t : Fin cfg0.N), LeavesAt m c t (fun d => d = O c t)) (c : Dev nD) :
    BodyObligation (datV (F := F) m O 0 c) (defs₀ (F := F)) Variants.none () Set.univ := fun t => by
  rw [bigSep_W0, bigSep_W0, defs₀_row]
  refine triple_restated (point_triple m c t (fun d => d = O c t) (hO c t) ((datV m O 0 c).owesAt () t.castSucc)) rfl ?_ fun _ => ?_
  · rw [show (datV m O 0 c).Φ t.castSucc = Pipeline.ΦA spec0 c from rfl]
    simp only [datV_before0, datV_before1, datV_before2, datV_before3, datV_before4, datV_before5, datV_before6, datV_before7]
    iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    isplitl [HP]; · iexact HP
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · rw [show (datV m O 0 c).Φ t.succ = Pipeline.ΦA spec0 c from rfl,
      show (datV m O 0 c).owesAt () t.succ = (datV m O 0 c).owesAt () t.castSucc from rfl]
    simp only [datV_after0, datV_after1, datV_after2, datV_after3, datV_after4, datV_after5, datV_after6, datV_after7, datV_after8]
    iintro ⟨HP, HO, H0, H1, H2, H3, H4, H5, H6, H7, ⟨%d8, %h8, H8⟩⟩
    subst h8
    isplitl [HP]; · iexact HP
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

set_option backward.isDefEq.respectTransparency.types false in
/-- The run: @main ends, every window's array at what the named blocks make of it, the counters at zero. -/
theorem run_value (hO : ∀ (c : Dev nD) (t : Fin cfg0.N), LeavesAt m c t (fun d => d = O c t)) :
    θ_run defs (onTc (τ := τ) (main (F := F))) (s₀ m ρ)
      (fun r => Pipeline.FramePost cfgs (datV m O) 0 (V m) r ∧ r.2.sem = fun _ => 0) :=
  Pipeline.θ_run_frame (Q' := _) cfgs (datV m O) (0 : Fin 1) launch0 defs₀ Variants.none m ρ main
    (hbody := fun c => (datV_body m O hO c).loose) (hshare := fun c => (datV m O 0 c).share_full fun _ => rfl)
    (howed := fun _ _ => rfl) (V := V m) (hmain := hmain m Variants.none) (hA := datV_A m O) (hΦ := fun _ _ => rfl)

end Cert.KernelIdeal.Attn

end
-- ==== Proof.AttnTrip.lean ====
/- The scratch of the attention body through one trip of the loop over the key blocks (hand-written). -/
module

public import proofs.«01_k».proof.Proof.KernelIdealRun
public import Idealize.ShloMosaic.Lib.Pipeline.FrameBody
public import Idealize.ShloMosaic.Lib.Pipeline.ReadBack

@[expose] public section

set_option maxRecDepth 16384
set_option maxHeartbeats 4000000

noncomputable section

namespace Cert.KernelIdeal.Attn

open Cert.KernelIdeal Cert.KernelIdeal.Gen
open Idealize.ShloMosaic Idealize.ShloMosaic.TcCoe

variable {F : FTy → Type} [FloatOps F] [Named F]

/-! ## Reads of a list of writes -/

section Reads

variable {sg : RefSig} {κ : Kind} {sp : Space} {s : Shape} {e : EltTy} {Val : EltTy → Type}

/-- A load of the newest piece's own rectangle reads that piece. -/
theorem readAt_hit (v : View sg κ sp s e) (f : v.ty.Contents Val) (r : Rect s) (w : r.shape.Idx → Val e)
    (L : List (View.Piece Val s e)) : v.readAt Val r.toLoadRect (v.writes Val f (⟨r, w⟩ :: L)) = w :=
  funext fun x => View.read_writes_cons_emb v f r w L x

/-- A load apart from the newest piece reads the earlier ones. -/
theorem readAt_skip (v : View sg κ sp s e) (f : v.ty.Contents Val) (r : Rect s) (w : r.shape.Idx → Val e)
    (L : List (View.Piece Val s e)) (B : LoadRect s) (h : LoadRect.disj r B = true) :
    v.readAt Val B (v.writes Val f (⟨r, w⟩ :: L)) = v.readAt Val B (v.writes Val f L) :=
  funext fun j => View.read_writes_cons_miss v f ⟨r, w⟩ L (B.idx j) (LoadRect.idx_not_mem_of_disj h j)

/-- Writing a list is writing its older part and then its newer part. -/
theorem writes_append (v : View sg κ sp s e) (f : v.ty.Contents Val) (L L' : List (View.Piece Val s e)) :
    v.writes Val f (L ++ L') = v.writes Val (v.writes Val f L') L := by
  induction L with
  | nil => rfl
  | cons p L ih => rw [List.cons_append, View.writes_cons, View.writes_cons, ih]

end Reads

/-! ## One head's online softmax step -/

/-- A head's running maximum, running sum and running weighted sum, a column per query row of either map. -/
abbrev HS (F : FTy → Type) : Type := FVec F S1x1024 .f32 × FVec F S1x1024 .f32 × FVec F S128x1024 .f32

/-- The maximum after a block of scores `s`. -/
def mN (s : FVec F S512x1024 .f32) (m : FVec F S1x1024 .f32) : FVec F S1x1024 .f32 :=
  maximumf m (shapeCast S1x1024 (multiReduction .maximumf [0] S1024 s 0xFF800000#32 reduces_S512x1024_S1024 (.inl rfl) rfl) shapeCasts_S1024_S1x1024)

/-- The weights of a block of scores at the maximum `m'`. -/
def wN (s : FVec F S512x1024 .f32) (m' : FVec F S1x1024 .f32) : FVec F S512x1024 .f32 :=
  exp2 (subf s (broadcastTo S512x1024 m' broadcasts_S1x1024_S512x1024))

/-- The sum after a block of scores `s`. -/
def lN (s : FVec F S512x1024 .f32) (m l : FVec F S1x1024 .f32) : FVec F S1x1024 .f32 :=
  addf (mulf (exp2 (subf m (mN s m))) l)
    (shapeCast S1x1024 (multiReduction .add [0] S1024 (wN s (mN s m)) 0x00000000#32 reduces_S512x1024_S1024 (.inl rfl) rfl) shapeCasts_S1024_S1x1024)

/-- The weighted sum after a block of scores `s` and values `v`. -/
def aN (s : FVec F S512x1024 .f32) (v : FVec F S512x128 .bf16) (m : FVec F S1x1024 .f32) (a : FVec F S128x1024 .f32) : FVec F S128x1024 .f32 :=
  addf (mulf (broadcastTo S128x1024 (exp2 (subf m (mN s m))) broadcasts_S1x1024_S128x1024) a)
    (matmul dot_S512x128_S512x1024_S128x1024_0_0_1_1_n_n none v (truncf .bf16 (wN s (mN s m)) bitsLt_bf16_f32) (constant S128x1024 .f32 0x00000000#32))

/-- One block of one head. -/
def stp (s : FVec F S512x1024 .f32) (v : FVec F S512x128 .bf16) (x : HS F) : HS F :=
  (mN s x.1, lN s x.1 x.2.1, aN s v x.1 x.2.2)

/-- A block's scores against the stacked queries. -/
def sc (k : FVec F S512x128 .bf16) (q : FVec F S1024x128 .bf16) : FVec F S512x1024 .f32 :=
  matmul dot_S512x128_S1024x128_S512x1024_1_1_0_0_n_n none k q (constant S512x1024 .f32 0x00000000#32)

/-! ## What the scratch holds -/

/-- What a load of each head's slots of the maximum, the sum and the weighted sum reads, and of the first slot of the
    scores. -/
structure Holds (arg12 : Memref sig .tc .vmem S4x1x1024 .f32) (arg13 : Memref sig .tc .vmem S4x1x1024 .f32) (arg14 : Memref sig .tc .vmem S4x128x1024 .f32) (arg15 : Memref sig .tc .vmem S2x512x1024 .f32) (f12 : BufTy.Contents (Elt F) arg12.view.ty) (f13 : BufTy.Contents (Elt F) arg13.view.ty) (f14 : BufTy.Contents (Elt F) arg14.view.ty) (f15 : BufTy.Contents (Elt F) arg15.view.ty) (x0 x1 x2 x3 : HS F) (s : FVec F S512x1024 .f32) : Prop where
  m0 : (shapeCast S1x1024 (View.readAt (Elt F) arg12.view (Rect.unit (s := S4x1x1024) ![0, 0, 0] S1x1x1024.size inb_S4x1x1024_S1x1x1024_0_0_0).toLoadRect f12) shapeCasts_S1x1x1024_S1x1024) = x0.1
  l0 : (shapeCast S1x1024 (View.readAt (Elt F) arg13.view (Rect.unit (s := S4x1x1024) ![0, 0, 0] S1x1x1024.size inb_S4x1x1024_S1x1x1024_0_0_0).toLoadRect f13) shapeCasts_S1x1x1024_S1x1024) = x0.2.1
  a0 : (shapeCast S128x1024 (View.readAt (Elt F) arg14.view (Rect.unit (s := S4x128x1024) ![0, 0, 0] S1x128x1024.size inb_S4x128x1024_S1x128x1024_0_0_0).toLoadRect f14) shapeCasts_S1x128x1024_S128x1024) = x0.2.2
  m1 : (shapeCast S1x1024 (View.readAt (Elt F) arg12.view (Rect.unit (s := S4x1x1024) ![1, 0, 0] S1x1x1024.size inb_S4x1x1024_S1x1x1024_1_0_0).toLoadRect f12) shapeCasts_S1x1x1024_S1x1024) = x1.1
  l1 : (shapeCast S1x1024 (View.readAt (Elt F) arg13.view (Rect.unit (s := S4x1x1024) ![1, 0, 0] S1x1x1024.size inb_S4x1x1024_S1x1x1024_1_0_0).toLoadRect f13) shapeCasts_S1x1x1024_S1x1024) = x1.2.1
  a1 : (shapeCast S128x1024 (View.readAt (Elt F) arg14.view (Rect.unit (s := S4x128x1024) ![1, 0, 0] S1x128x1024.size inb_S4x128x1024_S1x128x1024_1_0_0).toLoadRect f14) shapeCasts_S1x128x1024_S128x1024) = x1.2.2
  m2 : (shapeCast S1x1024 (View.readAt (Elt F) arg12.view (Rect.unit (s := S4x1x1024) ![2, 0, 0] S1x1x1024.size inb_S4x1x1024_S1x1x1024_2_0_0).toLoadRect f12) shapeCasts_S1x1x1024_S1x1024) = x2.1
  l2 : (shapeCast S1x1024 (View.readAt (Elt F) arg13.view (Rect.unit (s := S4x1x1024) ![2, 0, 0] S1x1x1024.size inb_S4x1x1024_S1x1x1024_2_0_0).toLoadRect f13) shapeCasts_S1x1x1024_S1x1024) = x2.2.1
  a2 : (shapeCast S128x1024 (View.readAt (Elt F) arg14.view (Rect.unit (s := S4x128x1024) ![2, 0, 0] S1x128x1024.size inb_S4x128x1024_S1x128x1024_2_0_0).toLoadRect f14) shapeCasts_S1x128x1024_S128x1024) = x2.2.2
  m3 : (shapeCast S1x1024 (View.readAt (Elt F) arg12.view (Rect.unit (s := S4x1x1024) ![3, 0, 0] S1x1x1024.size inb_S4x1x1024_S1x1x1024_3_0_0).toLoadRect f12) shapeCasts_S1x1x1024_S1x1024) = x3.1
  l3 : (shapeCast S1x1024 (View.readAt (Elt F) arg13.view (Rect.unit (s := S4x1x1024) ![3, 0, 0] S1x1x1024.size inb_S4x1x1024_S1x1x1024_3_0_0).toLoadRect f13) shapeCasts_S1x1x1024_S1x1024) = x3.2.1
  a3 : (shapeCast S128x1024 (View.readAt (Elt F) arg14.view (Rect.unit (s := S4x128x1024) ![3, 0, 0] S1x128x1024.size inb_S4x128x1024_S1x128x1024_3_0_0).toLoadRect f14) shapeCasts_S1x128x1024_S128x1024) = x3.2.2
  s0 : (shapeCast S512x1024 (View.readAt (Elt F) arg15.view (Rect.unit (s := S2x512x1024) ![0, 0, 0] S1x512x1024.size inb_S2x512x1024_S1x512x1024_0_0_0).toLoadRect f15) shapeCasts_S1x512x1024_S512x1024) = s

/-- One trip of the loop: every head takes one step, at the scores that the scratch holds (the first head) or that the
    trip computes (the others), and the next block's scores of the first head replace the ones held. -/
theorem holds_trip (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (a1 : BitVec 32) (v1 : FVec F S4x128x1024 .f32) (X3 : BufTy.Contents (Elt F) arg3.view.ty) (X4 : BufTy.Contents (Elt F) arg4.view.ty) (X11 : BufTy.Contents (Elt F) arg11.view.ty) (k : Fin (k0_t1_loop i).trips) (f12 : BufTy.Contents (Elt F) arg12.view.ty) (f13 : BufTy.Contents (Elt F) arg13.view.ty) (f14 : BufTy.Contents (Elt F) arg14.view.ty) (f15 : BufTy.Contents (Elt F) arg15.view.ty) (x0 x1 x2 x3 : HS F) (s : FVec F S512x1024 .f32)
    (H : Holds arg12 arg13 arg14 arg15 f12 f13 f14 f15 x0 x1 x2 x3 s) :
    Holds arg12 arg13 arg14 arg15 (arg12.view.writes (Elt F) f12 (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 a1 v1 X3 X4 X11 k f12 f13 f14 f15).1) (arg13.view.writes (Elt F) f13 (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 a1 v1 X3 X4 X11 k f12 f13 f14 f15).2.1) (arg14.view.writes (Elt F) f14 (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 a1 v1 X3 X4 X11 k f12 f13 f14 f15).2.2.1) (arg15.view.writes (Elt F) f15 (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 a1 v1 X3 X4 X11 k f12 f13 f14 f15).2.2.2)
      (stp s (trip_k0_t1.sl.v464 (F := F) i arg4 X4 k) x0) (stp (sc (F := F) (trip_k0_t1.sl.v455 (F := F) i arg3 X3 k) (trip_k0_t1.sl.v457 (F := F) arg11 X11)) (trip_k0_t1.sl.v510 (F := F) i arg4 X4 k) x1) (stp (sc (F := F) (trip_k0_t1.sl.v501 (F := F) i arg3 X3 k) (trip_k0_t1.sl.v503 (F := F) arg11 X11)) (trip_k0_t1.sl.v556 (F := F) i arg4 X4 k) x2) (stp (sc (F := F) (trip_k0_t1.sl.v547 (F := F) i arg3 X3 k) (trip_k0_t1.sl.v549 (F := F) arg11 X11)) (trip_k0_t1.sl.v604 (F := F) i arg4 X4 k) x3) (sc (F := F) (trip_k0_t1.sl.v595 (F := F) i arg3 X3 k) (trip_k0_t1.sl.v597 (F := F) arg11 X11)) := by
  obtain ⟨m0, l0, a0⟩ := x0
  obtain ⟨m1, l1, a1'⟩ := x1
  obtain ⟨m2, l2, a2⟩ := x2
  obtain ⟨m3, l3, a3⟩ := x3
  obtain ⟨h1, h2, h3, h4, h5, h6, h7, h8, h9, h10, h11, h12, h13⟩ := H
  dsimp only at h1 h2 h3 h4 h5 h6 h7 h8 h9 h10 h11 h12 h13
  subst h1 h2 h3 h4 h5 h6 h7 h8 h9 h10 h11 h12 h13
  have e1 : trip_k0_t1.sl.v498 (F := F) i arg3 arg11 arg15 X3 X11 k = (sc (F := F) (trip_k0_t1.sl.v455 (F := F) i arg3 X3 k) (trip_k0_t1.sl.v457 (F := F) arg11 X11)) := by
    unfold trip_k0_t1.sl.v498 trip_k0_t1.sl.v497 trip_k0_t1.sl.HW_arg15_1
    rw [View.readCov_cons_toLoadRect]
    unfold trip_k0_t1.sl.v461
    rw [shapeCast_shapeCast]; rfl
  have e2 : trip_k0_t1.sl.v544 (F := F) i arg3 arg11 arg15 X3 X11 k = (sc (F := F) (trip_k0_t1.sl.v501 (F := F) i arg3 X3 k) (trip_k0_t1.sl.v503 (F := F) arg11 X11)) := by
    unfold trip_k0_t1.sl.v544 trip_k0_t1.sl.v543 trip_k0_t1.sl.HW_arg15_2
    rw [View.readCov_cons_toLoadRect]
    unfold trip_k0_t1.sl.v507
    rw [shapeCast_shapeCast]; rfl
  have e3 : trip_k0_t1.sl.v590 (F := F) i arg3 arg11 arg15 X3 X11 k = (sc (F := F) (trip_k0_t1.sl.v547 (F := F) i arg3 X3 k) (trip_k0_t1.sl.v549 (F := F) arg11 X11)) := by
    unfold trip_k0_t1.sl.v590 trip_k0_t1.sl.v589 trip_k0_t1.sl.HW_arg15_3
    rw [View.readCov_cons_toLoadRect]
    unfold trip_k0_t1.sl.v553
    rw [shapeCast_shapeCast]; rfl
  unfold tripL_k0_t1 trip_k0_t1
  dsimp only
  constructor
  · rw [readAt_skip _ _ _ _ _ _ (by decide)]; rw [readAt_skip _ _ _ _ _ _ (by decide)]; rw [readAt_skip _ _ _ _ _ _ (by decide)]; rw [readAt_hit]; exact shapeCast_shapeCast _ _ _
  · rw [readAt_skip _ _ _ _ _ _ (by decide)]; rw [readAt_skip _ _ _ _ _ _ (by decide)]; rw [readAt_skip _ _ _ _ _ _ (by decide)]; rw [readAt_hit]; exact shapeCast_shapeCast _ _ _
  · rw [readAt_skip _ _ _ _ _ _ (by decide)]; rw [readAt_skip _ _ _ _ _ _ (by decide)]; rw [readAt_skip _ _ _ _ _ _ (by decide)]; rw [readAt_hit]; exact shapeCast_shapeCast _ _ _
  · rw [readAt_skip _ _ _ _ _ _ (by decide)]; rw [readAt_skip _ _ _ _ _ _ (by decide)]; rw [readAt_hit]; rw [← e1]; exact shapeCast_shapeCast _ _ _
  · rw [readAt_skip _ _ _ _ _ _ (by decide)]; rw [readAt_skip _ _ _ _ _ _ (by decide)]; rw [readAt_hit]; rw [← e1]; exact shapeCast_shapeCast _ _ _
  · rw [readAt_skip _ _ _ _ _ _ (by decide)]; rw [readAt_skip _ _ _ _ _ _ (by decide)]; rw [readAt_hit]; rw [← e1]; exact shapeCast_shapeCast _ _ _
  · rw [readAt_skip _ _ _ _ _ _ (by decide)]; rw [readAt_hit]; rw [← e2]; exact shapeCast_shapeCast _ _ _
  · rw [readAt_skip _ _ _ _ _ _ (by decide)]; rw [readAt_hit]; rw [← e2]; exact shapeCast_shapeCast _ _ _
  · rw [readAt_skip _ _ _ _ _ _ (by decide)]; rw [readAt_hit]; rw [← e2]; exact shapeCast_shapeCast _ _ _
  · rw [readAt_hit]; rw [← e3]; exact shapeCast_shapeCast _ _ _
  · rw [readAt_hit]; rw [← e3]; exact shapeCast_shapeCast _ _ _
  · rw [readAt_hit]; rw [← e3]; exact shapeCast_shapeCast _ _ _
  · rw [readAt_hit]; exact shapeCast_shapeCast _ _ _

end Cert.KernelIdeal.Attn
-- ==== Proof.AttnLoop.lean ====
/- The attention body's loop over the key blocks, by what the scratch holds before every trip (hand-written). -/
module

public import proofs.«01_k».proof.Proof.AttnTrip
public import Idealize.ShloMosaic.Lib.WholeRead
public import Idealize.ShloMosaic.Lib.Pipeline.Value
public import Idealize.ShloMosaic.Lib.Pointwise.Index

@[expose] public section

set_option maxRecDepth 16384
set_option maxHeartbeats 4000000

noncomputable section

namespace Cert.KernelIdeal.Attn

open Cert.KernelIdeal Cert.KernelIdeal.Gen
open Idealize.ShloMosaic Idealize.ShloMosaic.TcCoe

variable {F : FTy → Type} [FloatOps F] [Named F]

/-- Rows `512 n` to `512 n + 511` and columns `w` to `w + 127` of a key or value slab. -/
def kbv {α : Type} (x : S1x2048x512.Idx → α) (w n : ℕ) : S512x128.Idx → α := fun y =>
  x (ix3 (0 : Fin 1) (⟨(512 * n + (y 0).val) % 2048, Nat.mod_lt _ (by decide)⟩ : Fin 2048) (⟨(w + (y 1).val) % 512, Nat.mod_lt _ (by decide)⟩ : Fin 512))

/-- A load of such a block of a slab held at `x` reads it. -/
theorem kbv_eq {e : EltTy} {m : Memref sig .tc .vmem S1x2048x512 e} (h : m.IsWhole) (x : S1x2048x512.Idx → Elt F e) (off : Fin 3 → ℕ) (o w n : ℕ)
    (eo : off = ![0, o, w]) (on : o = 512 * n) (hn : n < 4) (hw : w + 128 ≤ 512) (hin : ∀ a, off a + S1x512x128.size a ≤ S1x2048x512.size a)
    (hc : S1x512x128.ShapeCasts S512x128) :
    shapeCast S512x128 (View.readAt (Elt F) m.view (Rect.unit (s := S1x2048x512) off S1x512x128.size hin).toLoadRect (h.unread x)) hc = kbv x w n := by
  subst eo on
  funext y
  refine (shapeCast_dropUnit_apply (n := 2) ![512, 128] _ hc y).trans ?_
  refine (h.readAt_unread x _ _).trans (congrArg x (funext fun a => Fin.ext ?_))
  have h0 : (y 0).val < 512 := (y 0).isLt
  have h1 : (y 1).val < 128 := (y 1).isLt
  fin_cases a
  · rfl
  · show 512 * n + 1 * (y 0).val = (512 * n + (y 0).val) % 2048
    rw [Nat.mod_eq_of_lt (by omega)]; omega
  · show w + 1 * (y 1).val = (w + (y 1).val) % 512
    rw [Nat.mod_eq_of_lt (by omega)]; omega

/-- A head's state after the first `n` key blocks, none of them masked. -/
def hst (q : FVec F S1024x128 .bf16) (k v : S1x2048x512.Idx → Elt F .bf16) (w : ℕ) : ℕ → HS F → HS F
  | 0, x => x
  | n + 1, x => stp (sc (kbv k w n) q) (kbv v w n) (hst q k v w n x)

/-- Before trip `n` the scratch holds every head's state after `n` key blocks, and block `n`'s scores of the first head. -/
theorem holds_pb (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (a1 : BitVec 32) (v1 : FVec F S4x128x1024 .f32)
    (x3 x4 : S1x2048x512.Idx → Elt F .bf16) (X11 : BufTy.Contents (Elt F) arg11.view.ty)
    (G12 : BufTy.Contents (Elt F) arg12.view.ty) (G13 : BufTy.Contents (Elt F) arg13.view.ty) (G14 : BufTy.Contents (Elt F) arg14.view.ty) (G15 : BufTy.Contents (Elt F) arg15.view.ty)
    (q0 q1 q2 q3 : FVec F S1024x128 .bf16) (hq0 : (shapeCast S1024x128 (View.readAt (Elt F) arg11.view (Rect.unit (s := S4x1024x128) ![0, 0, 0] S1x1024x128.size inb_S4x1024x128_S1x1024x128_0_0_0).toLoadRect X11) shapeCasts_S1x1024x128_S1024x128) = q0) (hq1 : (shapeCast S1024x128 (View.readAt (Elt F) arg11.view (Rect.unit (s := S4x1024x128) ![1, 0, 0] S1x1024x128.size inb_S4x1024x128_S1x1024x128_1_0_0).toLoadRect X11) shapeCasts_S1x1024x128_S1024x128) = q1) (hq2 : (shapeCast S1024x128 (View.readAt (Elt F) arg11.view (Rect.unit (s := S4x1024x128) ![2, 0, 0] S1x1024x128.size inb_S4x1024x128_S1x1024x128_2_0_0).toLoadRect X11) shapeCasts_S1x1024x128_S1024x128) = q2) (hq3 : (shapeCast S1024x128 (View.readAt (Elt F) arg11.view (Rect.unit (s := S4x1024x128) ![3, 0, 0] S1x1024x128.size inb_S4x1024x128_S1x1024x128_3_0_0).toLoadRect X11) shapeCasts_S1x1024x128_S1024x128) = q3) (y0 y1 y2 y3 : HS F)
    (H : Holds arg12 arg13 arg14 arg15 G12 G13 G14 G15 y0 y1 y2 y3 (sc (kbv x3 0 0) q0)) (n : ℕ) (hn : n ≤ (k0_t1_loop i).trips) :
    Holds arg12 arg13 arg14 arg15 (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 a1 v1 (harg3.unread x3) (harg4.unread x4) X11 G12 G13 G14 G15 n).1) (arg13.view.writes (Elt F) G13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 a1 v1 (harg3.unread x3) (harg4.unread x4) X11 G12 G13 G14 G15 n).2.1) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 a1 v1 (harg3.unread x3) (harg4.unread x4) X11 G12 G13 G14 G15 n).2.2.1) (arg15.view.writes (Elt F) G15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 a1 v1 (harg3.unread x3) (harg4.unread x4) X11 G12 G13 G14 G15 n).2.2.2)
      (hst q0 x3 x4 0 n y0) (hst q1 x3 x4 128 n y1) (hst q2 x3 x4 256 n y2) (hst q3 x3 x4 384 n y3) (sc (kbv x3 0 n) q0) := by
  induction n with
  | zero => exact H
  | succ n ih =>
    have hlt : n < (k0_t1_loop i).trips := hn
    have ht := (k0_t1_abs i).2.1
    have hT := holds_trip 𝒱 c bd i arg2 harg2 arg3 harg3 arg4 harg4 arg5 harg5 arg6 harg6 arg7 harg7 arg8 harg8 arg9 harg9 arg10 harg10 arg11 harg11 arg12 harg12 arg13 harg13 arg14 harg14 arg15 harg15 a1 v1 (harg3.unread x3) (harg4.unread x4) X11 ⟨n, hlt⟩ _ _ _ _ _ _ _ _ _ (ih (Nat.le_of_lt hlt))
    rw [show (n + 1) = (⟨n, hlt⟩ : Fin (k0_t1_loop i).trips).val + 1 from rfl, pb_k0_t1_succ]
    dsimp only
    rw [writes_append, writes_append, writes_append, writes_append]
    have ek0 : trip_k0_t1.sl.v595 (F := F) i arg3 (harg3.unread x3) ⟨n, hlt⟩ = kbv x3 0 (n + 1) := kbv_eq harg3 x3 _ (512 * n + 512) 0 (n + 1) (k0_off5_eq i ⟨n, hlt⟩) (by omega) (by omega) (by omega) _ _
    have eq0 : trip_k0_t1.sl.v597 (F := F) arg11 X11 = q0 := hq0
    have ev0 : trip_k0_t1.sl.v464 (F := F) i arg4 (harg4.unread x4) ⟨n, hlt⟩ = kbv x4 0 n := kbv_eq harg4 x4 _ (512 * n) 0 n (k0_off2_eq i ⟨n, hlt⟩) rfl (by omega) (by omega) _ _
    have ek1 : trip_k0_t1.sl.v455 (F := F) i arg3 (harg3.unread x3) ⟨n, hlt⟩ = kbv x3 128 (n) := kbv_eq harg3 x3 _ (512 * n) 128 (n) (k0_off1_eq i ⟨n, hlt⟩) (by omega) (by omega) (by omega) _ _
    have eq1 : trip_k0_t1.sl.v457 (F := F) arg11 X11 = q1 := hq1
    have ev1 : trip_k0_t1.sl.v510 (F := F) i arg4 (harg4.unread x4) ⟨n, hlt⟩ = kbv x4 128 n := kbv_eq harg4 x4 _ (512 * n) 128 n (k0_off1_eq i ⟨n, hlt⟩) rfl (by omega) (by omega) _ _
    have ek2 : trip_k0_t1.sl.v501 (F := F) i arg3 (harg3.unread x3) ⟨n, hlt⟩ = kbv x3 256 (n) := kbv_eq harg3 x3 _ (512 * n) 256 (n) (k0_off3_eq i ⟨n, hlt⟩) (by omega) (by omega) (by omega) _ _
    have eq2 : trip_k0_t1.sl.v503 (F := F) arg11 X11 = q2 := hq2
    have ev2 : trip_k0_t1.sl.v556 (F := F) i arg4 (harg4.unread x4) ⟨n, hlt⟩ = kbv x4 256 n := kbv_eq harg4 x4 _ (512 * n) 256 n (k0_off3_eq i ⟨n, hlt⟩) rfl (by omega) (by omega) _ _
    have ek3 : trip_k0_t1.sl.v547 (F := F) i arg3 (harg3.unread x3) ⟨n, hlt⟩ = kbv x3 384 (n) := kbv_eq harg3 x3 _ (512 * n) 384 (n) (k0_off4_eq i ⟨n, hlt⟩) (by omega) (by omega) (by omega) _ _
    have eq3 : trip_k0_t1.sl.v549 (F := F) arg11 X11 = q3 := hq3
    have ev3 : trip_k0_t1.sl.v604 (F := F) i arg4 (harg4.unread x4) ⟨n, hlt⟩ = kbv x4 384 n := kbv_eq harg4 x4 _ (512 * n) 384 n (k0_off4_eq i ⟨n, hlt⟩) rfl (by omega) (by omega) _ _
    rw [ek0, ek1, ek2, ek3, eq0, eq1, eq2, eq3, ev0, ev1, ev2, ev3] at hT
    exact hT

end Cert.KernelIdeal.Attn
-- ==== Proof.AttnEntry.lean ====
/- The attention body at one grid point: the value that it stores (hand-written). -/
module

public import proofs.«01_k».proof.Proof.AttnLoop
public import Idealize.ShloMosaic.Lib.Exec.Geometry

@[expose] public section

set_option maxRecDepth 16384
set_option maxHeartbeats 4000000

noncomputable section

namespace Cert.KernelIdeal.Attn

open Cert.KernelIdeal Cert.KernelIdeal.Gen
open Idealize.ShloMosaic Idealize.ShloMosaic.TcCoe

variable {F : FTy → Type} [FloatOps F] [Named F]

/-! ## The pieces of the value -/

/-- The 128 columns from `w` of a query block, as the load of them reads. -/
def qbl (x : S1x512x512.Idx → F .f32) (w : ℕ) : S1x512x128.Idx → F .f32 := fun y =>
  x (ix3 (0 : Fin 1) (⟨(y 1).val % 512, Nat.mod_lt _ (by decide)⟩ : Fin 512) (⟨(w + (y 2).val) % 512, Nat.mod_lt _ (by decide)⟩ : Fin 512))

/-- A load of such columns reads them. -/
theorem qbl_eq {m : Memref sig .tc .vmem S1x512x512 .f32} (h : m.IsWhole) (x : S1x512x512.Idx → Elt F .f32) (w : ℕ) (hw : w + 128 ≤ 512)
    (hin : ∀ a, (![0, 0, w] : Fin 3 → ℕ) a + S1x512x128.size a ≤ S1x512x512.size a) :
    View.readAt (Elt F) m.view (Rect.unit (s := S1x512x512) ![0, 0, w] S1x512x128.size hin).toLoadRect (h.unread x) = qbl x w := by
  funext y
  refine (h.readAt_unread x _ _).trans (congrArg x (funext fun a => Fin.ext ?_))
  have h0 : (y 0).val < 1 := (y 0).isLt
  have h1 : (y 1).val < 512 := (y 1).isLt
  have h2 : (y 2).val < 128 := (y 2).isLt
  fin_cases a
  · show 0 + 1 * (y 0).val = 0
    omega
  · show 0 + 1 * (y 1).val = (y 1).val % 512
    rw [Nat.mod_eq_of_lt h1]; omega
  · show w + 1 * (y 2).val = (w + (y 2).val) % 512
    rw [Nat.mod_eq_of_lt (by omega)]; omega

/-- A head's stacked queries: the first map's over the second map's, each with the other map's lanes at zero. -/
def qhd (x : S1x512x512.Idx → F .f32) (w : ℕ) : FVec F S1024x128 .bf16 := k0_pay85 (qbl x w)

/-- The state of a head before its first key block. -/
def hs0 : HS F := (fun _ => Scalar.ofBits .f32 0xFF800000#32, fun _ => Scalar.ofBits .f32 0x00000000#32, fun _ => Scalar.ofBits .f32 0x00000000#32)

/-- A block's scores with the keys after the query masked. -/
def msk (s : FVec F S512x1024 .f32) : FVec F S512x1024 .f32 := select k0_pay78 s (broadcast S512x1024 (FloatOps.ofBits .f32 0xFF800000#32))

/-- A head's state after the key blocks before the query block `n` and the masked block `n`. -/
def fin (q : FVec F S1024x128 .bf16) (k v : S1x2048x512.Idx → Elt F .bf16) (w n : ℕ) : HS F :=
  stp (msk (sc (kbv k w n) q)) (kbv v w n) (hst q k v w n hs0)

/-- One map's half of a head's sums. -/
def lhf (l : FVec F S1x1024 .f32) (o : ℕ) : FVec F S1x512 .f32 := fun y =>
  l (ix2 (0 : Fin 1) (⟨(o + (y 1).val) % 1024, Nat.mod_lt _ (by decide)⟩ : Fin 1024))

/-- One map's half of a head's weighted sums. -/
def ahf (a : FVec F S128x1024 .f32) (o : ℕ) : FVec F S128x512 .f32 := fun y =>
  a (ix2 (⟨(y 0).val % 128, Nat.mod_lt _ (by decide)⟩ : Fin 128) (⟨(o + (y 1).val) % 1024, Nat.mod_lt _ (by decide)⟩ : Fin 1024))

/-- The difference of a head's two attention maps, a column per query row. -/
def dif (lam : FVec F S1x1 .f32) (z : HS F) : FVec F S128x512 .f32 :=
  subf (divf (ahf z.2.2 0) (broadcastTo S128x512 (lhf z.2.1 0) broadcasts_S1x512_S128x512))
    (mulf (broadcastTo S128x512 lam broadcasts_S1x1_S128x512) (divf (ahf z.2.2 512) (broadcastTo S128x512 (lhf z.2.1 512) broadcasts_S1x512_S128x512)))

/-- A column's scale: one over the root of the mean square. -/
def rms (d : FVec F S128x512 .f32) : FVec F S1x512 .f32 :=
  rsqrt (addf (divf (shapeCast S1x512 (multiReduction .add [0] S512 (mulf d d) 0x00000000#32 reduces_S128x512_S512 (.inl rfl) rfl) shapeCasts_S512_S1x512) (broadcast S1x512 (FloatOps.ofBits .f32 0x43000000#32)))
    (broadcast S1x512 (FloatOps.ofBits .f32 0x358637BD#32)))

/-- A head's result: the normed difference, a row per query row, by the norm's gain and the constant. -/
def hout (lam : FVec F S1x1 .f32) (g : FVec F S1x128 .f32) (z : HS F) : FVec F S512x128 .bf16 :=
  truncf .bf16 (mulf (mulf (transpose S512x128 [1, 0] (mulf (dif lam z) (broadcastTo S128x512 (rms (dif lam z)) broadcasts_S1x512_S128x512)) transposes_S128x512_p1_0_S512x128)
    (broadcastTo S512x128 g broadcasts_S1x128_S512x128)) (broadcast S512x128 (FloatOps.ofBits .f32 0x3F4CCCCD#32))) bitsLt_bf16_f32

/-- Part of the sums' slot, from a reading of the slot. -/
theorem lhf_eq {v : View sig .tc .vmem S4x1x1024 .f32} (f : v.ty.Contents (Elt F)) (h o : ℕ) (l : FVec F S1x1024 .f32)
    (hin : ∀ a, (![h, 0, 0] : Fin 3 → ℕ) a + S1x1x1024.size a ≤ S4x1x1024.size a) (hin' : ∀ a, (![h, 0, o] : Fin 3 → ℕ) a + S1x1x512.size a ≤ S4x1x1024.size a)
    (hc : S1x1x1024.ShapeCasts S1x1024) (hc' : S1x1x512.ShapeCasts S1x512)
    (e : shapeCast S1x1024 (View.readAt (Elt F) v (Rect.unit (s := S4x1x1024) ![h, 0, 0] S1x1x1024.size hin).toLoadRect f) hc = l) :
    shapeCast S1x512 (View.readAt (Elt F) v (Rect.unit (s := S4x1x1024) ![h, 0, o] S1x1x512.size hin').toLoadRect f) hc' = lhf l o := by
  subst e
  have ho : o + 512 ≤ 1024 := hin' 2
  funext y
  refine (shapeCast_dropUnit_apply (n := 2) ![1, 512] _ hc' y).trans (Eq.trans ?_ (shapeCast_dropUnit_apply (n := 2) ![1, 1024] _ hc _).symm)
  rw [View.readAt_apply, View.readAt_apply]
  refine congrArg _ (funext fun a => Fin.ext ?_)
  have h0 : (y 0).val < 1 := (y 0).isLt
  have h1 : (y 1).val < 512 := (y 1).isLt
  fin_cases a
  · rfl
  · show 0 + 1 * (y 0).val = 0 + 1 * 0
    omega
  · show o + 1 * (y 1).val = 0 + 1 * ((o + (y 1).val) % 1024)
    rw [Nat.mod_eq_of_lt (by omega)]; omega

/-- Part of the weighted sums' slot, from a reading of the slot. -/
theorem ahf_eq {v : View sig .tc .vmem S4x128x1024 .f32} (f : v.ty.Contents (Elt F)) (h o : ℕ) (l : FVec F S128x1024 .f32)
    (hin : ∀ a, (![h, 0, 0] : Fin 3 → ℕ) a + S1x128x1024.size a ≤ S4x128x1024.size a) (hin' : ∀ a, (![h, 0, o] : Fin 3 → ℕ) a + S1x128x512.size a ≤ S4x128x1024.size a)
    (hc : S1x128x1024.ShapeCasts S128x1024) (hc' : S1x128x512.ShapeCasts S128x512)
    (e : shapeCast S128x1024 (View.readAt (Elt F) v (Rect.unit (s := S4x128x1024) ![h, 0, 0] S1x128x1024.size hin).toLoadRect f) hc = l) :
    shapeCast S128x512 (View.readAt (Elt F) v (Rect.unit (s := S4x128x1024) ![h, 0, o] S1x128x512.size hin').toLoadRect f) hc' = ahf l o := by
  subst e
  have ho : o + 512 ≤ 1024 := hin' 2
  funext y
  refine (shapeCast_dropUnit_apply (n := 2) ![128, 512] _ hc' y).trans (Eq.trans ?_ (shapeCast_dropUnit_apply (n := 2) ![128, 1024] _ hc _).symm)
  rw [View.readAt_apply, View.readAt_apply]
  refine congrArg _ (funext fun a => Fin.ext ?_)
  have h0 : (y 0).val < 128 := (y 0).isLt
  have h1 : (y 1).val < 512 := (y 1).isLt
  fin_cases a
  · rfl
  · show 0 + 1 * (y 0).val = 0 + 1 * ((y 0).val % 128)
    rw [Nat.mod_eq_of_lt h0]
  · show o + 1 * (y 1).val = 0 + 1 * ((o + (y 1).val) % 1024)
    rw [Nat.mod_eq_of_lt (by omega)]; omega

/-- The trips of the loop over the unmasked blocks are the query block's number. -/
theorem trips_eq : ∀ i : grid0.Coords, (k0_t1_loop i).trips = (i 1).val := by decide +kernel

/-- The queries' slot 0 holds head 0's stacked queries. -/
theorem q_slot0 (arg2 : Memref sig .tc .vmem S1x512x512 .f32) (harg2 : arg2.IsWhole) (arg11 : Memref sig .tc .vmem S4x1024x128 .bf16) (x2 : S1x512x512.Idx → Elt F .f32) :
    (shapeCast S1024x128 (View.readAt (Elt F) arg11.view (Rect.unit (s := S4x1024x128) ![0, 0, 0] S1x1024x128.size inb_S4x1024x128_S1x1024x128_0_0_0).toLoadRect (arg11.view.writes (Elt F) arg11.view.junk (bodyRun.sl.H11_4 (F := F) arg2 (harg2.unread x2)))) shapeCasts_S1x1024x128_S1024x128) = (qhd x2 0) := by
  unfold bodyRun.sl.H11_4
  rw [readAt_skip _ _ _ _ _ _ (by decide)]; rw [readAt_skip _ _ _ _ _ _ (by decide)]; rw [readAt_skip _ _ _ _ _ _ (by decide)]; rw [readAt_hit]
  unfold bodyRun.sl.r_1 bodyRun.sl.r_2; rw [qbl_eq harg2 x2 0 (by decide)]
  exact shapeCast_shapeCast (k0_pay85 (qbl x2 0)) _ _

/-- The queries' slot 1 holds head 1's stacked queries. -/
theorem q_slot1 (arg2 : Memref sig .tc .vmem S1x512x512 .f32) (harg2 : arg2.IsWhole) (arg11 : Memref sig .tc .vmem S4x1024x128 .bf16) (x2 : S1x512x512.Idx → Elt F .f32) :
    (shapeCast S1024x128 (View.readAt (Elt F) arg11.view (Rect.unit (s := S4x1024x128) ![1, 0, 0] S1x1024x128.size inb_S4x1024x128_S1x1024x128_1_0_0).toLoadRect (arg11.view.writes (Elt F) arg11.view.junk (bodyRun.sl.H11_4 (F := F) arg2 (harg2.unread x2)))) shapeCasts_S1x1024x128_S1024x128) = (qhd x2 128) := by
  unfold bodyRun.sl.H11_4
  rw [readAt_skip _ _ _ _ _ _ (by decide)]; rw [readAt_skip _ _ _ _ _ _ (by decide)]; rw [readAt_hit]
  rw [qbl_eq harg2 x2 128 (by decide)]
  exact shapeCast_shapeCast (k0_pay85 (qbl x2 128)) _ _

/-- The queries' slot 2 holds head 2's stacked queries. -/
theorem q_slot2 (arg2 : Memref sig .tc .vmem S1x512x512 .f32) (harg2 : arg2.IsWhole) (arg11 : Memref sig .tc .vmem S4x1024x128 .bf16) (x2 : S1x512x512.Idx → Elt F .f32) :
    (shapeCast S1024x128 (View.readAt (Elt F) arg11.view (Rect.unit (s := S4x1024x128) ![2, 0, 0] S1x1024x128.size inb_S4x1024x128_S1x1024x128_2_0_0).toLoadRect (arg11.view.writes (Elt F) arg11.view.junk (bodyRun.sl.H11_4 (F := F) arg2 (harg2.unread x2)))) shapeCasts_S1x1024x128_S1024x128) = (qhd x2 256) := by
  unfold bodyRun.sl.H11_4
  rw [readAt_skip _ _ _ _ _ _ (by decide)]; rw [readAt_hit]
  unfold bodyRun.sl.r_3; rw [qbl_eq harg2 x2 256 (by decide)]
  exact shapeCast_shapeCast (k0_pay85 (qbl x2 256)) _ _

/-- The queries' slot 3 holds head 3's stacked queries. -/
theorem q_slot3 (arg2 : Memref sig .tc .vmem S1x512x512 .f32) (harg2 : arg2.IsWhole) (arg11 : Memref sig .tc .vmem S4x1024x128 .bf16) (x2 : S1x512x512.Idx → Elt F .f32) :
    (shapeCast S1024x128 (View.readAt (Elt F) arg11.view (Rect.unit (s := S4x1024x128) ![3, 0, 0] S1x1024x128.size inb_S4x1024x128_S1x1024x128_3_0_0).toLoadRect (arg11.view.writes (Elt F) arg11.view.junk (bodyRun.sl.H11_4 (F := F) arg2 (harg2.unread x2)))) shapeCasts_S1x1024x128_S1024x128) = (qhd x2 384) := by
  unfold bodyRun.sl.H11_4
  rw [readAt_hit]
  rw [qbl_eq harg2 x2 384 (by decide)]
  exact shapeCast_shapeCast (k0_pay85 (qbl x2 384)) _ _

/-- The scratch at loop entry. -/
theorem holds_entry (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 : S1x2048x512.Idx → Elt F .bf16) (f15 : BufTy.Contents (Elt F) arg15.view.ty) :
    Holds arg12 arg13 arg14 arg15 (arg12.view.writes (Elt F) arg12.view.junk (bodyRun.sl.H12_1 (F := F) )) (arg13.view.writes (Elt F) arg13.view.junk (bodyRun.sl.H13_1 (F := F) )) (arg14.view.writes (Elt F) arg14.view.junk (bodyRun.sl.H14_1 (F := F) )) (arg15.view.writes (Elt F) f15 [⟨Rect.unit (s := S2x512x1024) ![0, 0, 0] S1x512x1024.size inb_S2x512x1024_S1x512x1024_0_0_0, (bodyRun.sl.v114 (F := F) arg2 arg3 arg11 (harg2.unread x2) (harg3.unread x3))⟩]) hs0 hs0 hs0 hs0 (sc (kbv x3 0 0) (qhd x2 0)) := by
  constructor
  · exact congrArg (fun z => shapeCast _ z _) (View.readCov_fill arg12.view _ _ _ _ (by decide))
  · exact congrArg (fun z => shapeCast _ z _) (View.readCov_fill arg13.view _ _ _ _ (by decide))
  · exact congrArg (fun z => shapeCast _ z _) (View.readCov_fill arg14.view _ _ _ _ (by decide))
  · exact congrArg (fun z => shapeCast _ z _) (View.readCov_fill arg12.view _ _ _ _ (by decide))
  · exact congrArg (fun z => shapeCast _ z _) (View.readCov_fill arg13.view _ _ _ _ (by decide))
  · exact congrArg (fun z => shapeCast _ z _) (View.readCov_fill arg14.view _ _ _ _ (by decide))
  · exact congrArg (fun z => shapeCast _ z _) (View.readCov_fill arg12.view _ _ _ _ (by decide))
  · exact congrArg (fun z => shapeCast _ z _) (View.readCov_fill arg13.view _ _ _ _ (by decide))
  · exact congrArg (fun z => shapeCast _ z _) (View.readCov_fill arg14.view _ _ _ _ (by decide))
  · exact congrArg (fun z => shapeCast _ z _) (View.readCov_fill arg12.view _ _ _ _ (by decide))
  · exact congrArg (fun z => shapeCast _ z _) (View.readCov_fill arg13.view _ _ _ _ (by decide))
  · exact congrArg (fun z => shapeCast _ z _) (View.readCov_fill arg14.view _ _ _ _ (by decide))
  · rw [readAt_hit]
    unfold bodyRun.sl.v114
    refine (shapeCast_shapeCast _ _ _).trans ?_
    unfold bodyRun.sl.v111 bodyRun.sl.v110 bodyRun.sl.v109 bodyRun.sl.v108 bodyRun.sl.cst_61
    rw [kbv_eq harg3 x3 _ 0 0 0 rfl rfl (by decide) (by decide)]
    exact congrArg (sc (kbv x3 0 0)) (q_slot0 arg2 harg2 arg11 x2)

/-- The scratch after the loop. -/
theorem holds_loop (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 x4 : S1x2048x512.Idx → Elt F .bf16) (f15 : BufTy.Contents (Elt F) arg15.view.ty) :
    Holds arg12 arg13 arg14 arg15 (arg12.view.writes (Elt F) (arg12.view.writes (Elt F) arg12.view.junk (bodyRun.sl.H12_1 (F := F) )) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (0#32) (constant S4x128x1024 .f32 0#32) (harg3.unread x3) (harg4.unread x4) (arg11.view.writes (Elt F) arg11.view.junk (bodyRun.sl.H11_4 (F := F) arg2 (harg2.unread x2))) (arg12.view.writes (Elt F) arg12.view.junk (bodyRun.sl.H12_1 (F := F) )) (arg13.view.writes (Elt F) arg13.view.junk (bodyRun.sl.H13_1 (F := F) )) (arg14.view.writes (Elt F) arg14.view.junk (bodyRun.sl.H14_1 (F := F) )) (arg15.view.writes (Elt F) f15 [⟨Rect.unit (s := S2x512x1024) ![0, 0, 0] S1x512x1024.size inb_S2x512x1024_S1x512x1024_0_0_0, (bodyRun.sl.v114 (F := F) arg2 arg3 arg11 (harg2.unread x2) (harg3.unread x3))⟩]) (k0_t1_loop i).trips).1) (arg13.view.writes (Elt F) (arg13.view.writes (Elt F) arg13.view.junk (bodyRun.sl.H13_1 (F := F) )) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (0#32) (constant S4x128x1024 .f32 0#32) (harg3.unread x3) (harg4.unread x4) (arg11.view.writes (Elt F) arg11.view.junk (bodyRun.sl.H11_4 (F := F) arg2 (harg2.unread x2))) (arg12.view.writes (Elt F) arg12.view.junk (bodyRun.sl.H12_1 (F := F) )) (arg13.view.writes (Elt F) arg13.view.junk (bodyRun.sl.H13_1 (F := F) )) (arg14.view.writes (Elt F) arg14.view.junk (bodyRun.sl.H14_1 (F := F) )) (arg15.view.writes (Elt F) f15 [⟨Rect.unit (s := S2x512x1024) ![0, 0, 0] S1x512x1024.size inb_S2x512x1024_S1x512x1024_0_0_0, (bodyRun.sl.v114 (F := F) arg2 arg3 arg11 (harg2.unread x2) (harg3.unread x3))⟩]) (k0_t1_loop i).trips).2.1) (arg14.view.writes (Elt F) (arg14.view.writes (Elt F) arg14.view.junk (bodyRun.sl.H14_1 (F := F) )) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (0#32) (constant S4x128x1024 .f32 0#32) (harg3.unread x3) (harg4.unread x4) (arg11.view.writes (Elt F) arg11.view.junk (bodyRun.sl.H11_4 (F := F) arg2 (harg2.unread x2))) (arg12.view.writes (Elt F) arg12.view.junk (bodyRun.sl.H12_1 (F := F) )) (arg13.view.writes (Elt F) arg13.view.junk (bodyRun.sl.H13_1 (F := F) )) (arg14.view.writes (Elt F) arg14.view.junk (bodyRun.sl.H14_1 (F := F) )) (arg15.view.writes (Elt F) f15 [⟨Rect.unit (s := S2x512x1024) ![0, 0, 0] S1x512x1024.size inb_S2x512x1024_S1x512x1024_0_0_0, (bodyRun.sl.v114 (F := F) arg2 arg3 arg11 (harg2.unread x2) (harg3.unread x3))⟩]) (k0_t1_loop i).trips).2.2.1) (arg15.view.writes (Elt F) (arg15.view.writes (Elt F) f15 [⟨Rect.unit (s := S2x512x1024) ![0, 0, 0] S1x512x1024.size inb_S2x512x1024_S1x512x1024_0_0_0, (bodyRun.sl.v114 (F := F) arg2 arg3 arg11 (harg2.unread x2) (harg3.unread x3))⟩]) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (0#32) (constant S4x128x1024 .f32 0#32) (harg3.unread x3) (harg4.unread x4) (arg11.view.writes (Elt F) arg11.view.junk (bodyRun.sl.H11_4 (F := F) arg2 (harg2.unread x2))) (arg12.view.writes (Elt F) arg12.view.junk (bodyRun.sl.H12_1 (F := F) )) (arg13.view.writes (Elt F) arg13.view.junk (bodyRun.sl.H13_1 (F := F) )) (arg14.view.writes (Elt F) arg14.view.junk (bodyRun.sl.H14_1 (F := F) )) (arg15.view.writes (Elt F) f15 [⟨Rect.unit (s := S2x512x1024) ![0, 0, 0] S1x512x1024.size inb_S2x512x1024_S1x512x1024_0_0_0, (bodyRun.sl.v114 (F := F) arg2 arg3 arg11 (harg2.unread x2) (harg3.unread x3))⟩]) (k0_t1_loop i).trips).2.2.2)
      (hst (qhd x2 0) x3 x4 0 (i 1).val hs0) (hst (qhd x2 128) x3 x4 128 (i 1).val hs0) (hst (qhd x2 256) x3 x4 256 (i 1).val hs0) (hst (qhd x2 384) x3 x4 384 (i 1).val hs0) (sc (kbv x3 0 (i 1).val) (qhd x2 0)) := by
  have h := holds_pb 𝒱 c bd i arg2 harg2 arg3 harg3 arg4 harg4 arg5 harg5 arg6 harg6 arg7 harg7 arg8 harg8 arg9 harg9 arg10 harg10 arg11 harg11 arg12 harg12 arg13 harg13 arg14 harg14 arg15 harg15 (0#32) (constant S4x128x1024 .f32 0#32) x3 x4 (arg11.view.writes (Elt F) arg11.view.junk (bodyRun.sl.H11_4 (F := F) arg2 (harg2.unread x2))) (arg12.view.writes (Elt F) arg12.view.junk (bodyRun.sl.H12_1 (F := F) )) (arg13.view.writes (Elt F) arg13.view.junk (bodyRun.sl.H13_1 (F := F) )) (arg14.view.writes (Elt F) arg14.view.junk (bodyRun.sl.H14_1 (F := F) )) (arg15.view.writes (Elt F) f15 [⟨Rect.unit (s := S2x512x1024) ![0, 0, 0] S1x512x1024.size inb_S2x512x1024_S1x512x1024_0_0_0, (bodyRun.sl.v114 (F := F) arg2 arg3 arg11 (harg2.unread x2) (harg3.unread x3))⟩]) (qhd x2 0) (qhd x2 128) (qhd x2 256) (qhd x2 384)
    (q_slot0 arg2 harg2 arg11 x2) (q_slot1 arg2 harg2 arg11 x2) (q_slot2 arg2 harg2 arg11 x2) (q_slot3 arg2 harg2 arg11 x2) hs0 hs0 hs0 hs0
    (holds_entry arg2 harg2 arg3 harg3 arg4 harg4 arg5 harg5 arg6 harg6 arg7 harg7 arg8 harg8 arg9 harg9 arg10 harg10 arg11 harg11 arg12 harg12 arg13 harg13 arg14 harg14 arg15 harg15 x2 x3 f15) (k0_t1_loop i).trips le_rfl
  generalize eP : (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (0#32) (constant S4x128x1024 .f32 0#32) (harg3.unread x3) (harg4.unread x4) (arg11.view.writes (Elt F) arg11.view.junk (bodyRun.sl.H11_4 (F := F) arg2 (harg2.unread x2))) (arg12.view.writes (Elt F) arg12.view.junk (bodyRun.sl.H12_1 (F := F) )) (arg13.view.writes (Elt F) arg13.view.junk (bodyRun.sl.H13_1 (F := F) )) (arg14.view.writes (Elt F) arg14.view.junk (bodyRun.sl.H14_1 (F := F) )) (arg15.view.writes (Elt F) f15 [⟨Rect.unit (s := S2x512x1024) ![0, 0, 0] S1x512x1024.size inb_S2x512x1024_S1x512x1024_0_0_0, (bodyRun.sl.v114 (F := F) arg2 arg3 arg11 (harg2.unread x2) (harg3.unread x3))⟩]) (k0_t1_loop i).trips) = P at h ⊢
  rwa [trips_eq i] at h

end Cert.KernelIdeal.Attn
-- ==== Proof.AttnBody.lean ====
/- The attention body at one grid point: the masked block and the value stored (hand-written). -/
module

public import proofs.«01_k».proof.Proof.AttnEntry

@[expose] public section

set_option maxRecDepth 16384
set_option maxHeartbeats 4000000

noncomputable section

namespace Cert.KernelIdeal.Attn

open Cert.KernelIdeal Cert.KernelIdeal.Gen
open Idealize.ShloMosaic Idealize.ShloMosaic.TcCoe

variable {F : FTy → Type} [FloatOps F] [Named F]

/-- Head 0's masked block: what its loads read, and the state that it computes. -/
theorem head0_vals (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 x4 : S1x2048x512.Idx → Elt F .bf16) (f15 : BufTy.Contents (Elt F) arg15.view.ty) :
    (bodyRun.sl.v139 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = (hst (qhd x2 0) x3 x4 0 (i 1).val hs0).1 ∧ (bodyRun.sl.v149 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = (hst (qhd x2 0) x3 x4 0 (i 1).val hs0).2.1 ∧ (bodyRun.sl.v158 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = (hst (qhd x2 0) x3 x4 0 (i 1).val hs0).2.2 ∧ (bodyRun.sl.v123 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = sc (kbv x3 0 (i 1).val) (qhd x2 0) ∧ (bodyRun.sl.v137 (F := F) i arg4 (harg4.unread x4)) = kbv x4 0 (i 1).val := by
  have H := holds_loop 𝒱 c bd i arg2 harg2 arg3 harg3 arg4 harg4 arg5 harg5 arg6 harg6 arg7 harg7 arg8 harg8 arg9 harg9 arg10 harg10 arg11 harg11 arg12 harg12 arg13 harg13 arg14 harg14 arg15 harg15 x2 x3 x4 f15
  refine ⟨?_, ?_, ?_, ?_, ?_⟩
  · unfold bodyRun.sl.v139 bodyRun.sl.v138
    unfold View.readCov
    rw [writes_append]
    exact H.m0
  · unfold bodyRun.sl.v149 bodyRun.sl.v148
    unfold View.readCov
    rw [writes_append]
    exact H.l0
  · unfold bodyRun.sl.v158 bodyRun.sl.v157
    unfold View.readCov
    rw [writes_append]
    exact H.a0
  · unfold bodyRun.sl.v123 bodyRun.sl.v122
    rw [← View.readAt_writes_of_cover arg15.view f15 _ _ (fun j => ⟨_, List.mem_append_right _ (List.mem_singleton.2 rfl), LoadRect.idx_mem _ j⟩), writes_append]
    exact H.s0
  · exact kbv_eq harg4 x4 _ (512 * (i 1).val) 0 (i 1).val (k0_off12_eq i) rfl (i 1).isLt (by decide) _ _

/-- Head 0's sums and weighted sums after the masked block. -/
theorem head0_state (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 x4 : S1x2048x512.Idx → Elt F .bf16) (f15 : BufTy.Contents (Elt F) arg15.view.ty) :
    (bodyRun.sl.v153 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = (fin (qhd x2 0) x3 x4 0 (i 1).val).2.1 ∧ (bodyRun.sl.v163 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = (fin (qhd x2 0) x3 x4 0 (i 1).val).2.2 := by
  obtain ⟨e1, e2, e3, e4, e5⟩ := head0_vals 𝒱 c bd i arg2 harg2 arg3 harg3 arg4 harg4 arg5 harg5 arg6 harg6 arg7 harg7 arg8 harg8 arg9 harg9 arg10 harg10 arg11 harg11 arg12 harg12 arg13 harg13 arg14 harg14 arg15 harg15 x2 x3 x4 f15
  unfold bodyRun.sl.v163 bodyRun.sl.v160 bodyRun.sl.v159 bodyRun.sl.v162 bodyRun.sl.v161 bodyRun.sl.v153 bodyRun.sl.v150 bodyRun.sl.v152 bodyRun.sl.v151 bodyRun.sl.v147 bodyRun.sl.v146 bodyRun.sl.v145 bodyRun.sl.v144 bodyRun.sl.v143 bodyRun.sl.v142 bodyRun.sl.v141 bodyRun.sl.v140 bodyRun.sl.v134 bodyRun.sl.v133 bodyRun.sl.cst_81 bodyRun.sl.cst_98
  rw [e1, e2, e3, e4, e5]
  exact ⟨rfl, rfl⟩

/-- Head 1's masked block: what its loads read, and the state that it computes. -/
theorem head1_vals (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 x4 : S1x2048x512.Idx → Elt F .bf16) (f15 : BufTy.Contents (Elt F) arg15.view.ty) :
    (bodyRun.sl.v187 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = (hst (qhd x2 128) x3 x4 128 (i 1).val hs0).1 ∧ (bodyRun.sl.v197 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = (hst (qhd x2 128) x3 x4 128 (i 1).val hs0).2.1 ∧ (bodyRun.sl.v206 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = (hst (qhd x2 128) x3 x4 128 (i 1).val hs0).2.2 ∧ (bodyRun.sl.v171 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = sc (kbv x3 128 (i 1).val) (qhd x2 128) ∧ (bodyRun.sl.v185 (F := F) i arg4 (harg4.unread x4)) = kbv x4 128 (i 1).val := by
  have H := holds_loop 𝒱 c bd i arg2 harg2 arg3 harg3 arg4 harg4 arg5 harg5 arg6 harg6 arg7 harg7 arg8 harg8 arg9 harg9 arg10 harg10 arg11 harg11 arg12 harg12 arg13 harg13 arg14 harg14 arg15 harg15 x2 x3 x4 f15
  refine ⟨?_, ?_, ?_, ?_, ?_⟩
  · unfold bodyRun.sl.v187 bodyRun.sl.v186
    unfold View.readCov
    unfold bodyRun.sl.H12_1_1
    rw [readAt_skip _ _ _ _ _ _ (by decide)]
    rw [writes_append]
    exact H.m1
  · unfold bodyRun.sl.v197 bodyRun.sl.v196
    unfold View.readCov
    unfold bodyRun.sl.H13_1_1
    rw [readAt_skip _ _ _ _ _ _ (by decide)]
    rw [writes_append]
    exact H.l1
  · unfold bodyRun.sl.v206 bodyRun.sl.v205
    unfold View.readCov
    unfold bodyRun.sl.H14_1_1
    rw [readAt_skip _ _ _ _ _ _ (by decide)]
    rw [writes_append]
    exact H.a1
  · unfold bodyRun.sl.v171 bodyRun.sl.v170 bodyRun.sl.H15_1
    rw [View.readCov_cons_toLoadRect]
    unfold bodyRun.sl.v132
    refine (shapeCast_shapeCast _ _ _).trans ?_
    unfold bodyRun.sl.v129 bodyRun.sl.v126 bodyRun.sl.v128 bodyRun.sl.v127 bodyRun.sl.cst_77
    rw [kbv_eq harg3 x3 _ (512 * (i 1).val) 128 (i 1).val (k0_off11_eq i) rfl (i 1).isLt (by decide)]
    exact congrArg (sc (kbv x3 128 (i 1).val)) (q_slot1 arg2 harg2 arg11 x2)
  · exact kbv_eq harg4 x4 _ (512 * (i 1).val) 128 (i 1).val (k0_off11_eq i) rfl (i 1).isLt (by decide) _ _

/-- Head 1's sums and weighted sums after the masked block. -/
theorem head1_state (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 x4 : S1x2048x512.Idx → Elt F .bf16) (f15 : BufTy.Contents (Elt F) arg15.view.ty) :
    (bodyRun.sl.v201 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = (fin (qhd x2 128) x3 x4 128 (i 1).val).2.1 ∧ (bodyRun.sl.v211 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = (fin (qhd x2 128) x3 x4 128 (i 1).val).2.2 := by
  obtain ⟨e1, e2, e3, e4, e5⟩ := head1_vals 𝒱 c bd i arg2 harg2 arg3 harg3 arg4 harg4 arg5 harg5 arg6 harg6 arg7 harg7 arg8 harg8 arg9 harg9 arg10 harg10 arg11 harg11 arg12 harg12 arg13 harg13 arg14 harg14 arg15 harg15 x2 x3 x4 f15
  unfold bodyRun.sl.v211 bodyRun.sl.v208 bodyRun.sl.v207 bodyRun.sl.v210 bodyRun.sl.v209 bodyRun.sl.v201 bodyRun.sl.v198 bodyRun.sl.v200 bodyRun.sl.v199 bodyRun.sl.v195 bodyRun.sl.v194 bodyRun.sl.v193 bodyRun.sl.v192 bodyRun.sl.v191 bodyRun.sl.v190 bodyRun.sl.v189 bodyRun.sl.v188 bodyRun.sl.v182 bodyRun.sl.v133 bodyRun.sl.cst_81 bodyRun.sl.cst_98
  rw [e1, e2, e3, e4, e5]
  exact ⟨rfl, rfl⟩

/-- Head 2's masked block: what its loads read, and the state that it computes. -/
theorem head2_vals (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 x4 : S1x2048x512.Idx → Elt F .bf16) (f15 : BufTy.Contents (Elt F) arg15.view.ty) :
    (bodyRun.sl.v235 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = (hst (qhd x2 256) x3 x4 256 (i 1).val hs0).1 ∧ (bodyRun.sl.v245 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = (hst (qhd x2 256) x3 x4 256 (i 1).val hs0).2.1 ∧ (bodyRun.sl.v254 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = (hst (qhd x2 256) x3 x4 256 (i 1).val hs0).2.2 ∧ (bodyRun.sl.v219 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = sc (kbv x3 256 (i 1).val) (qhd x2 256) ∧ (bodyRun.sl.v233 (F := F) i arg4 (harg4.unread x4)) = kbv x4 256 (i 1).val := by
  have H := holds_loop 𝒱 c bd i arg2 harg2 arg3 harg3 arg4 harg4 arg5 harg5 arg6 harg6 arg7 harg7 arg8 harg8 arg9 harg9 arg10 harg10 arg11 harg11 arg12 harg12 arg13 harg13 arg14 harg14 arg15 harg15 x2 x3 x4 f15
  refine ⟨?_, ?_, ?_, ?_, ?_⟩
  · unfold bodyRun.sl.v235 bodyRun.sl.v234
    unfold View.readCov
    unfold bodyRun.sl.H12_2
    rw [readAt_skip _ _ _ _ _ _ (by decide)]
    unfold bodyRun.sl.H12_1_1
    rw [readAt_skip _ _ _ _ _ _ (by decide)]
    rw [writes_append]
    exact H.m2
  · unfold bodyRun.sl.v245 bodyRun.sl.v244
    unfold View.readCov
    unfold bodyRun.sl.H13_2
    rw [readAt_skip _ _ _ _ _ _ (by decide)]
    unfold bodyRun.sl.H13_1_1
    rw [readAt_skip _ _ _ _ _ _ (by decide)]
    rw [writes_append]
    exact H.l2
  · unfold bodyRun.sl.v254 bodyRun.sl.v253
    unfold View.readCov
    unfold bodyRun.sl.H14_2
    rw [readAt_skip _ _ _ _ _ _ (by decide)]
    unfold bodyRun.sl.H14_1_1
    rw [readAt_skip _ _ _ _ _ _ (by decide)]
    rw [writes_append]
    exact H.a2
  · unfold bodyRun.sl.v219 bodyRun.sl.v218 bodyRun.sl.H15_2
    rw [View.readCov_cons_toLoadRect]
    unfold bodyRun.sl.v180
    refine (shapeCast_shapeCast _ _ _).trans ?_
    unfold bodyRun.sl.v177 bodyRun.sl.v174 bodyRun.sl.v176 bodyRun.sl.v175 bodyRun.sl.cst_77
    rw [kbv_eq harg3 x3 _ (512 * (i 1).val) 256 (i 1).val (k0_off13_eq i) rfl (i 1).isLt (by decide)]
    exact congrArg (sc (kbv x3 256 (i 1).val)) (q_slot2 arg2 harg2 arg11 x2)
  · exact kbv_eq harg4 x4 _ (512 * (i 1).val) 256 (i 1).val (k0_off13_eq i) rfl (i 1).isLt (by decide) _ _

/-- Head 2's sums and weighted sums after the masked block. -/
theorem head2_state (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 x4 : S1x2048x512.Idx → Elt F .bf16) (f15 : BufTy.Contents (Elt F) arg15.view.ty) :
    (bodyRun.sl.v249 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = (fin (qhd x2 256) x3 x4 256 (i 1).val).2.1 ∧ (bodyRun.sl.v259 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = (fin (qhd x2 256) x3 x4 256 (i 1).val).2.2 := by
  obtain ⟨e1, e2, e3, e4, e5⟩ := head2_vals 𝒱 c bd i arg2 harg2 arg3 harg3 arg4 harg4 arg5 harg5 arg6 harg6 arg7 harg7 arg8 harg8 arg9 harg9 arg10 harg10 arg11 harg11 arg12 harg12 arg13 harg13 arg14 harg14 arg15 harg15 x2 x3 x4 f15
  unfold bodyRun.sl.v259 bodyRun.sl.v256 bodyRun.sl.v255 bodyRun.sl.v258 bodyRun.sl.v257 bodyRun.sl.v249 bodyRun.sl.v246 bodyRun.sl.v248 bodyRun.sl.v247 bodyRun.sl.v243 bodyRun.sl.v242 bodyRun.sl.v241 bodyRun.sl.v240 bodyRun.sl.v239 bodyRun.sl.v238 bodyRun.sl.v237 bodyRun.sl.v236 bodyRun.sl.v230 bodyRun.sl.v133 bodyRun.sl.cst_81 bodyRun.sl.cst_98
  rw [e1, e2, e3, e4, e5]
  exact ⟨rfl, rfl⟩

/-- Head 3's masked block: what its loads read, and the state that it computes. -/
theorem head3_vals (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 x4 : S1x2048x512.Idx → Elt F .bf16) (f15 : BufTy.Contents (Elt F) arg15.view.ty) :
    (bodyRun.sl.v274 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = (hst (qhd x2 384) x3 x4 384 (i 1).val hs0).1 ∧ (bodyRun.sl.v284 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = (hst (qhd x2 384) x3 x4 384 (i 1).val hs0).2.1 ∧ (bodyRun.sl.v293 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = (hst (qhd x2 384) x3 x4 384 (i 1).val hs0).2.2 ∧ (bodyRun.sl.v267 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = sc (kbv x3 384 (i 1).val) (qhd x2 384) ∧ (bodyRun.sl.v272 (F := F) i arg4 (harg4.unread x4)) = kbv x4 384 (i 1).val := by
  have H := holds_loop 𝒱 c bd i arg2 harg2 arg3 harg3 arg4 harg4 arg5 harg5 arg6 harg6 arg7 harg7 arg8 harg8 arg9 harg9 arg10 harg10 arg11 harg11 arg12 harg12 arg13 harg13 arg14 harg14 arg15 harg15 x2 x3 x4 f15
  refine ⟨?_, ?_, ?_, ?_, ?_⟩
  · unfold bodyRun.sl.v274 bodyRun.sl.v273
    unfold View.readCov
    unfold bodyRun.sl.H12_3
    rw [readAt_skip _ _ _ _ _ _ (by decide)]
    unfold bodyRun.sl.H12_2
    rw [readAt_skip _ _ _ _ _ _ (by decide)]
    unfold bodyRun.sl.H12_1_1
    rw [readAt_skip _ _ _ _ _ _ (by decide)]
    rw [writes_append]
    exact H.m3
  · unfold bodyRun.sl.v284 bodyRun.sl.v283
    unfold View.readCov
    unfold bodyRun.sl.H13_3
    rw [readAt_skip _ _ _ _ _ _ (by decide)]
    unfold bodyRun.sl.H13_2
    rw [readAt_skip _ _ _ _ _ _ (by decide)]
    unfold bodyRun.sl.H13_1_1
    rw [readAt_skip _ _ _ _ _ _ (by decide)]
    rw [writes_append]
    exact H.l3
  · unfold bodyRun.sl.v293 bodyRun.sl.v292
    unfold View.readCov
    unfold bodyRun.sl.H14_3
    rw [readAt_skip _ _ _ _ _ _ (by decide)]
    unfold bodyRun.sl.H14_2
    rw [readAt_skip _ _ _ _ _ _ (by decide)]
    unfold bodyRun.sl.H14_1_1
    rw [readAt_skip _ _ _ _ _ _ (by decide)]
    rw [writes_append]
    exact H.a3
  · unfold bodyRun.sl.v267 bodyRun.sl.v266 bodyRun.sl.H15_3
    rw [View.readCov_cons_toLoadRect]
    unfold bodyRun.sl.v228
    refine (shapeCast_shapeCast _ _ _).trans ?_
    unfold bodyRun.sl.v225 bodyRun.sl.v222 bodyRun.sl.v224 bodyRun.sl.v223 bodyRun.sl.cst_77
    rw [kbv_eq harg3 x3 _ (512 * (i 1).val) 384 (i 1).val (k0_off14_eq i) rfl (i 1).isLt (by decide)]
    exact congrArg (sc (kbv x3 384 (i 1).val)) (q_slot3 arg2 harg2 arg11 x2)
  · exact kbv_eq harg4 x4 _ (512 * (i 1).val) 384 (i 1).val (k0_off14_eq i) rfl (i 1).isLt (by decide) _ _

/-- Head 3's sums and weighted sums after the masked block. -/
theorem head3_state (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 x4 : S1x2048x512.Idx → Elt F .bf16) (f15 : BufTy.Contents (Elt F) arg15.view.ty) :
    (bodyRun.sl.v288 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = (fin (qhd x2 384) x3 x4 384 (i 1).val).2.1 ∧ (bodyRun.sl.v298 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15) = (fin (qhd x2 384) x3 x4 384 (i 1).val).2.2 := by
  obtain ⟨e1, e2, e3, e4, e5⟩ := head3_vals 𝒱 c bd i arg2 harg2 arg3 harg3 arg4 harg4 arg5 harg5 arg6 harg6 arg7 harg7 arg8 harg8 arg9 harg9 arg10 harg10 arg11 harg11 arg12 harg12 arg13 harg13 arg14 harg14 arg15 harg15 x2 x3 x4 f15
  unfold bodyRun.sl.v298 bodyRun.sl.v295 bodyRun.sl.v294 bodyRun.sl.v297 bodyRun.sl.v296 bodyRun.sl.v288 bodyRun.sl.v285 bodyRun.sl.v287 bodyRun.sl.v286 bodyRun.sl.v282 bodyRun.sl.v281 bodyRun.sl.v280 bodyRun.sl.v279 bodyRun.sl.v278 bodyRun.sl.v277 bodyRun.sl.v276 bodyRun.sl.v275 bodyRun.sl.v269 bodyRun.sl.v133 bodyRun.sl.cst_81 bodyRun.sl.cst_98
  rw [e1, e2, e3, e4, e5]
  exact ⟨rfl, rfl⟩

/-- What the slots of head 0 hold when the outputs are computed. -/
theorem head0_slots (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 x4 : S1x2048x512.Idx → Elt F .bf16) (f15 : BufTy.Contents (Elt F) arg15.view.ty) : shapeCast S1x1024 (View.readAt (Elt F) arg13.view (Rect.unit (s := S4x1x1024) ![0, 0, 0] S1x1x1024.size inb_S4x1x1024_S1x1x1024_0_0_0).toLoadRect (arg13.view.writes (Elt F) arg13.view.junk (bodyRun.sl.H13_4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15))) shapeCasts_S1x1x1024_S1x1024 = (fin (qhd x2 0) x3 x4 0 (i 1).val).2.1 ∧ shapeCast S128x1024 (View.readAt (Elt F) arg14.view (Rect.unit (s := S4x128x1024) ![0, 0, 0] S1x128x1024.size inb_S4x128x1024_S1x128x1024_0_0_0).toLoadRect (arg14.view.writes (Elt F) arg14.view.junk (bodyRun.sl.H14_4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15))) shapeCasts_S1x128x1024_S128x1024 = (fin (qhd x2 0) x3 x4 0 (i 1).val).2.2 := by
  obtain ⟨e1, e2⟩ := head0_state 𝒱 c bd i arg2 harg2 arg3 harg3 arg4 harg4 arg5 harg5 arg6 harg6 arg7 harg7 arg8 harg8 arg9 harg9 arg10 harg10 arg11 harg11 arg12 harg12 arg13 harg13 arg14 harg14 arg15 harg15 x2 x3 x4 f15
  refine ⟨?_, ?_⟩
  · unfold bodyRun.sl.H13_4; rw [readAt_skip _ _ _ _ _ _ (by decide)]; unfold bodyRun.sl.H13_3; rw [readAt_skip _ _ _ _ _ _ (by decide)]; unfold bodyRun.sl.H13_2; rw [readAt_skip _ _ _ _ _ _ (by decide)]; unfold bodyRun.sl.H13_1_1; rw [readAt_hit]; unfold bodyRun.sl.v156; exact (shapeCast_shapeCast _ _ _).trans e1
  · unfold bodyRun.sl.H14_4; rw [readAt_skip _ _ _ _ _ _ (by decide)]; unfold bodyRun.sl.H14_3; rw [readAt_skip _ _ _ _ _ _ (by decide)]; unfold bodyRun.sl.H14_2; rw [readAt_skip _ _ _ _ _ _ (by decide)]; unfold bodyRun.sl.H14_1_1; rw [readAt_hit]; unfold bodyRun.sl.v166; exact (shapeCast_shapeCast _ _ _).trans e2

/-- What the slots of head 1 hold when the outputs are computed. -/
theorem head1_slots (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 x4 : S1x2048x512.Idx → Elt F .bf16) (f15 : BufTy.Contents (Elt F) arg15.view.ty) : shapeCast S1x1024 (View.readAt (Elt F) arg13.view (Rect.unit (s := S4x1x1024) ![1, 0, 0] S1x1x1024.size inb_S4x1x1024_S1x1x1024_1_0_0).toLoadRect (arg13.view.writes (Elt F) arg13.view.junk (bodyRun.sl.H13_4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15))) shapeCasts_S1x1x1024_S1x1024 = (fin (qhd x2 128) x3 x4 128 (i 1).val).2.1 ∧ shapeCast S128x1024 (View.readAt (Elt F) arg14.view (Rect.unit (s := S4x128x1024) ![1, 0, 0] S1x128x1024.size inb_S4x128x1024_S1x128x1024_1_0_0).toLoadRect (arg14.view.writes (Elt F) arg14.view.junk (bodyRun.sl.H14_4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15))) shapeCasts_S1x128x1024_S128x1024 = (fin (qhd x2 128) x3 x4 128 (i 1).val).2.2 := by
  obtain ⟨e1, e2⟩ := head1_state 𝒱 c bd i arg2 harg2 arg3 harg3 arg4 harg4 arg5 harg5 arg6 harg6 arg7 harg7 arg8 harg8 arg9 harg9 arg10 harg10 arg11 harg11 arg12 harg12 arg13 harg13 arg14 harg14 arg15 harg15 x2 x3 x4 f15
  refine ⟨?_, ?_⟩
  · unfold bodyRun.sl.H13_4; rw [readAt_skip _ _ _ _ _ _ (by decide)]; unfold bodyRun.sl.H13_3; rw [readAt_skip _ _ _ _ _ _ (by decide)]; unfold bodyRun.sl.H13_2; rw [readAt_hit]; unfold bodyRun.sl.v204; exact (shapeCast_shapeCast _ _ _).trans e1
  · unfold bodyRun.sl.H14_4; rw [readAt_skip _ _ _ _ _ _ (by decide)]; unfold bodyRun.sl.H14_3; rw [readAt_skip _ _ _ _ _ _ (by decide)]; unfold bodyRun.sl.H14_2; rw [readAt_hit]; unfold bodyRun.sl.v214; exact (shapeCast_shapeCast _ _ _).trans e2

/-- What the slots of head 2 hold when the outputs are computed. -/
theorem head2_slots (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 x4 : S1x2048x512.Idx → Elt F .bf16) (f15 : BufTy.Contents (Elt F) arg15.view.ty) : shapeCast S1x1024 (View.readAt (Elt F) arg13.view (Rect.unit (s := S4x1x1024) ![2, 0, 0] S1x1x1024.size inb_S4x1x1024_S1x1x1024_2_0_0).toLoadRect (arg13.view.writes (Elt F) arg13.view.junk (bodyRun.sl.H13_4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15))) shapeCasts_S1x1x1024_S1x1024 = (fin (qhd x2 256) x3 x4 256 (i 1).val).2.1 ∧ shapeCast S128x1024 (View.readAt (Elt F) arg14.view (Rect.unit (s := S4x128x1024) ![2, 0, 0] S1x128x1024.size inb_S4x128x1024_S1x128x1024_2_0_0).toLoadRect (arg14.view.writes (Elt F) arg14.view.junk (bodyRun.sl.H14_4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15))) shapeCasts_S1x128x1024_S128x1024 = (fin (qhd x2 256) x3 x4 256 (i 1).val).2.2 := by
  obtain ⟨e1, e2⟩ := head2_state 𝒱 c bd i arg2 harg2 arg3 harg3 arg4 harg4 arg5 harg5 arg6 harg6 arg7 harg7 arg8 harg8 arg9 harg9 arg10 harg10 arg11 harg11 arg12 harg12 arg13 harg13 arg14 harg14 arg15 harg15 x2 x3 x4 f15
  refine ⟨?_, ?_⟩
  · unfold bodyRun.sl.H13_4; rw [readAt_skip _ _ _ _ _ _ (by decide)]; unfold bodyRun.sl.H13_3; rw [readAt_hit]; unfold bodyRun.sl.v252; exact (shapeCast_shapeCast _ _ _).trans e1
  · unfold bodyRun.sl.H14_4; rw [readAt_skip _ _ _ _ _ _ (by decide)]; unfold bodyRun.sl.H14_3; rw [readAt_hit]; unfold bodyRun.sl.v262; exact (shapeCast_shapeCast _ _ _).trans e2

/-- What the slots of head 3 hold when the outputs are computed. -/
theorem head3_slots (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 x4 : S1x2048x512.Idx → Elt F .bf16) (f15 : BufTy.Contents (Elt F) arg15.view.ty) : shapeCast S1x1024 (View.readAt (Elt F) arg13.view (Rect.unit (s := S4x1x1024) ![3, 0, 0] S1x1x1024.size inb_S4x1x1024_S1x1x1024_3_0_0).toLoadRect (arg13.view.writes (Elt F) arg13.view.junk (bodyRun.sl.H13_4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15))) shapeCasts_S1x1x1024_S1x1024 = (fin (qhd x2 384) x3 x4 384 (i 1).val).2.1 ∧ shapeCast S128x1024 (View.readAt (Elt F) arg14.view (Rect.unit (s := S4x128x1024) ![3, 0, 0] S1x128x1024.size inb_S4x128x1024_S1x128x1024_3_0_0).toLoadRect (arg14.view.writes (Elt F) arg14.view.junk (bodyRun.sl.H14_4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) f15))) shapeCasts_S1x128x1024_S128x1024 = (fin (qhd x2 384) x3 x4 384 (i 1).val).2.2 := by
  obtain ⟨e1, e2⟩ := head3_state 𝒱 c bd i arg2 harg2 arg3 harg3 arg4 harg4 arg5 harg5 arg6 harg6 arg7 harg7 arg8 harg8 arg9 harg9 arg10 harg10 arg11 harg11 arg12 harg12 arg13 harg13 arg14 harg14 arg15 harg15 x2 x3 x4 f15
  refine ⟨?_, ?_⟩
  · unfold bodyRun.sl.H13_4; rw [readAt_hit]; unfold bodyRun.sl.v291; exact (shapeCast_shapeCast _ _ _).trans e1
  · unfold bodyRun.sl.H14_4; rw [readAt_hit]; unfold bodyRun.sl.v301; exact (shapeCast_shapeCast _ _ _).trans e2

/-- A load of all of a one-row operand reads it. -/
theorem row64_eq {m : Memref sig .tc .vmem S1x64 .f32} (h : m.IsWhole) (x : S1x64.Idx → Elt F .f32) (hin : ∀ a, (![0, 0] : Fin 2 → ℕ) a + S1x64.size a ≤ S1x64.size a) :
    View.readAt (Elt F) m.view (Rect.unit (s := S1x64) ![0, 0] S1x64.size hin).toLoadRect (h.unread x) = x := by
  funext y
  refine (h.readAt_unread x _ _).trans (congrArg x (funext fun a => Fin.ext ?_))
  fin_cases a
  · show 0 + 1 * (y 0).val = (y 0).val
    omega
  · show 0 + 1 * (y 1).val = (y 1).val
    omega

/-- A load of all of a one-row operand reads it. -/
theorem row128_eq {m : Memref sig .tc .vmem S1x128 .f32} (h : m.IsWhole) (x : S1x128.Idx → Elt F .f32) (hin : ∀ a, (![0, 0] : Fin 2 → ℕ) a + S1x128.size a ≤ S1x128.size a) :
    View.readAt (Elt F) m.view (Rect.unit (s := S1x128) ![0, 0] S1x128.size hin).toLoadRect (h.unread x) = x := by
  funext y
  refine (h.readAt_unread x _ _).trans (congrArg x (funext fun a => Fin.ext ?_))
  fin_cases a
  · show 0 + 1 * (y 0).val = (y 0).val
    omega
  · show 0 + 1 * (y 1).val = (y 1).val
    omega

/-- The value stored for head 0. -/
theorem head0_out (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 x4 : S1x2048x512.Idx → Elt F .bf16) (x5 x6 x7 x8 : S1x64.Idx → Elt F .f32) (x9 : S1x128.Idx → Elt F .f32) (f15 : BufTy.Contents (Elt F) arg15.view.ty) :
    (bodyRun.sl.v337 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg5.unread x5) (harg6.unread x6) (harg7.unread x7) (harg8.unread x8) (harg9.unread x9) f15) = hout (k0_pay77 x5 x6 x7 x8) x9 (fin (qhd x2 0) x3 x4 0 (i 1).val) := by
  obtain ⟨e1, e2⟩ := head0_slots 𝒱 c bd i arg2 harg2 arg3 harg3 arg4 harg4 arg5 harg5 arg6 harg6 arg7 harg7 arg8 harg8 arg9 harg9 arg10 harg10 arg11 harg11 arg12 harg12 arg13 harg13 arg14 harg14 arg15 harg15 x2 x3 x4 f15
  have l0 := lhf_eq _ 0 0 _ _ inb_S4x1x1024_S1x1x512_0_0_0 _ shapeCasts_S1x1x512_S1x512 e1
  have l1 := lhf_eq _ 0 512 _ _ inb_S4x1x1024_S1x1x512_0_0_512 _ shapeCasts_S1x1x512_S1x512 e1
  have a0 := ahf_eq _ 0 0 _ _ inb_S4x128x1024_S1x128x512_0_0_0 _ shapeCasts_S1x128x512_S128x512 e2
  have a1 := ahf_eq _ 0 512 _ _ inb_S4x128x1024_S1x128x512_0_0_512 _ shapeCasts_S1x128x512_S128x512 e2
  unfold bodyRun.sl.v337 bodyRun.sl.v336 bodyRun.sl.v335 bodyRun.sl.v334 bodyRun.sl.v333 bodyRun.sl.v332 bodyRun.sl.v330 bodyRun.sl.v329 bodyRun.sl.v328 bodyRun.sl.v327 bodyRun.sl.v326 bodyRun.sl.v325 bodyRun.sl.v324 bodyRun.sl.v323 bodyRun.sl.v322 bodyRun.sl.v321 bodyRun.sl.v320 bodyRun.sl.v319 bodyRun.sl.v318 bodyRun.sl.v317 bodyRun.sl.v316 bodyRun.sl.v315 bodyRun.sl.v314 bodyRun.sl.v313 bodyRun.sl.v312 bodyRun.sl.v311 bodyRun.sl.v310 bodyRun.sl.v309 bodyRun.sl.v308 bodyRun.sl.v307 bodyRun.sl.v306 bodyRun.sl.v305 bodyRun.sl.cst_216 bodyRun.sl.cst_217 bodyRun.sl.cst_220 bodyRun.sl.r
  rw [row64_eq harg5 x5, row64_eq harg6 x6, row64_eq harg7 x7, row64_eq harg8 x8, row128_eq harg9 x9, shapeCast_self]
  unfold View.readCov
  rw [l0, l1, a0, a1]
  rfl

/-- The value stored for head 1. -/
theorem head1_out (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 x4 : S1x2048x512.Idx → Elt F .bf16) (x5 x6 x7 x8 : S1x64.Idx → Elt F .f32) (x9 : S1x128.Idx → Elt F .f32) (f15 : BufTy.Contents (Elt F) arg15.view.ty) :
    (bodyRun.sl.v373 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg5.unread x5) (harg6.unread x6) (harg7.unread x7) (harg8.unread x8) (harg9.unread x9) f15) = hout (k0_pay77 x5 x6 x7 x8) x9 (fin (qhd x2 128) x3 x4 128 (i 1).val) := by
  obtain ⟨e1, e2⟩ := head1_slots 𝒱 c bd i arg2 harg2 arg3 harg3 arg4 harg4 arg5 harg5 arg6 harg6 arg7 harg7 arg8 harg8 arg9 harg9 arg10 harg10 arg11 harg11 arg12 harg12 arg13 harg13 arg14 harg14 arg15 harg15 x2 x3 x4 f15
  have l0 := lhf_eq _ 1 0 _ _ inb_S4x1x1024_S1x1x512_1_0_0 _ shapeCasts_S1x1x512_S1x512 e1
  have l1 := lhf_eq _ 1 512 _ _ inb_S4x1x1024_S1x1x512_1_0_512 _ shapeCasts_S1x1x512_S1x512 e1
  have a0 := ahf_eq _ 1 0 _ _ inb_S4x128x1024_S1x128x512_1_0_0 _ shapeCasts_S1x128x512_S128x512 e2
  have a1 := ahf_eq _ 1 512 _ _ inb_S4x128x1024_S1x128x512_1_0_512 _ shapeCasts_S1x128x512_S128x512 e2
  unfold bodyRun.sl.v373 bodyRun.sl.v372 bodyRun.sl.v370 bodyRun.sl.v366 bodyRun.sl.v365 bodyRun.sl.v364 bodyRun.sl.v363 bodyRun.sl.v362 bodyRun.sl.v360 bodyRun.sl.v358 bodyRun.sl.v357 bodyRun.sl.v356 bodyRun.sl.v355 bodyRun.sl.v354 bodyRun.sl.v352 bodyRun.sl.v351 bodyRun.sl.v350 bodyRun.sl.v349 bodyRun.sl.v348 bodyRun.sl.v347 bodyRun.sl.v346 bodyRun.sl.v345 bodyRun.sl.v344 bodyRun.sl.v343 bodyRun.sl.v342 bodyRun.sl.v341 bodyRun.sl.v317 bodyRun.sl.v323 bodyRun.sl.v325 bodyRun.sl.v333 bodyRun.sl.v332 bodyRun.sl.v335 bodyRun.sl.cst_216 bodyRun.sl.cst_217 bodyRun.sl.cst_220 bodyRun.sl.r
  rw [row64_eq harg5 x5, row64_eq harg6 x6, row64_eq harg7 x7, row64_eq harg8 x8, row128_eq harg9 x9, shapeCast_self]
  unfold View.readCov
  rw [l0, l1, a0, a1]
  rfl

/-- The value stored for head 2. -/
theorem head2_out (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 x4 : S1x2048x512.Idx → Elt F .bf16) (x5 x6 x7 x8 : S1x64.Idx → Elt F .f32) (x9 : S1x128.Idx → Elt F .f32) (f15 : BufTy.Contents (Elt F) arg15.view.ty) :
    (bodyRun.sl.v409 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg5.unread x5) (harg6.unread x6) (harg7.unread x7) (harg8.unread x8) (harg9.unread x9) f15) = hout (k0_pay77 x5 x6 x7 x8) x9 (fin (qhd x2 256) x3 x4 256 (i 1).val) := by
  obtain ⟨e1, e2⟩ := head2_slots 𝒱 c bd i arg2 harg2 arg3 harg3 arg4 harg4 arg5 harg5 arg6 harg6 arg7 harg7 arg8 harg8 arg9 harg9 arg10 harg10 arg11 harg11 arg12 harg12 arg13 harg13 arg14 harg14 arg15 harg15 x2 x3 x4 f15
  have l0 := lhf_eq _ 2 0 _ _ inb_S4x1x1024_S1x1x512_2_0_0 _ shapeCasts_S1x1x512_S1x512 e1
  have l1 := lhf_eq _ 2 512 _ _ inb_S4x1x1024_S1x1x512_2_0_512 _ shapeCasts_S1x1x512_S1x512 e1
  have a0 := ahf_eq _ 2 0 _ _ inb_S4x128x1024_S1x128x512_2_0_0 _ shapeCasts_S1x128x512_S128x512 e2
  have a1 := ahf_eq _ 2 512 _ _ inb_S4x128x1024_S1x128x512_2_0_512 _ shapeCasts_S1x128x512_S128x512 e2
  unfold bodyRun.sl.v409 bodyRun.sl.v408 bodyRun.sl.v406 bodyRun.sl.v402 bodyRun.sl.v401 bodyRun.sl.v400 bodyRun.sl.v399 bodyRun.sl.v398 bodyRun.sl.v396 bodyRun.sl.v394 bodyRun.sl.v393 bodyRun.sl.v392 bodyRun.sl.v391 bodyRun.sl.v390 bodyRun.sl.v388 bodyRun.sl.v387 bodyRun.sl.v386 bodyRun.sl.v385 bodyRun.sl.v384 bodyRun.sl.v383 bodyRun.sl.v382 bodyRun.sl.v381 bodyRun.sl.v380 bodyRun.sl.v379 bodyRun.sl.v378 bodyRun.sl.v377 bodyRun.sl.v317 bodyRun.sl.v323 bodyRun.sl.v325 bodyRun.sl.v333 bodyRun.sl.v332 bodyRun.sl.v335 bodyRun.sl.cst_216 bodyRun.sl.cst_217 bodyRun.sl.cst_220 bodyRun.sl.r
  rw [row64_eq harg5 x5, row64_eq harg6 x6, row64_eq harg7 x7, row64_eq harg8 x8, row128_eq harg9 x9, shapeCast_self]
  unfold View.readCov
  rw [l0, l1, a0, a1]
  rfl

/-- The value stored for head 3. -/
theorem head3_out (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 x4 : S1x2048x512.Idx → Elt F .bf16) (x5 x6 x7 x8 : S1x64.Idx → Elt F .f32) (x9 : S1x128.Idx → Elt F .f32) (f15 : BufTy.Contents (Elt F) arg15.view.ty) :
    (bodyRun.sl.v445 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg5.unread x5) (harg6.unread x6) (harg7.unread x7) (harg8.unread x8) (harg9.unread x9) f15) = hout (k0_pay77 x5 x6 x7 x8) x9 (fin (qhd x2 384) x3 x4 384 (i 1).val) := by
  obtain ⟨e1, e2⟩ := head3_slots 𝒱 c bd i arg2 harg2 arg3 harg3 arg4 harg4 arg5 harg5 arg6 harg6 arg7 harg7 arg8 harg8 arg9 harg9 arg10 harg10 arg11 harg11 arg12 harg12 arg13 harg13 arg14 harg14 arg15 harg15 x2 x3 x4 f15
  have l0 := lhf_eq _ 3 0 _ _ inb_S4x1x1024_S1x1x512_3_0_0 _ shapeCasts_S1x1x512_S1x512 e1
  have l1 := lhf_eq _ 3 512 _ _ inb_S4x1x1024_S1x1x512_3_0_512 _ shapeCasts_S1x1x512_S1x512 e1
  have a0 := ahf_eq _ 3 0 _ _ inb_S4x128x1024_S1x128x512_3_0_0 _ shapeCasts_S1x128x512_S128x512 e2
  have a1 := ahf_eq _ 3 512 _ _ inb_S4x128x1024_S1x128x512_3_0_512 _ shapeCasts_S1x128x512_S128x512 e2
  unfold bodyRun.sl.v445 bodyRun.sl.v444 bodyRun.sl.v442 bodyRun.sl.v438 bodyRun.sl.v437 bodyRun.sl.v436 bodyRun.sl.v435 bodyRun.sl.v434 bodyRun.sl.v432 bodyRun.sl.v430 bodyRun.sl.v429 bodyRun.sl.v428 bodyRun.sl.v427 bodyRun.sl.v426 bodyRun.sl.v424 bodyRun.sl.v423 bodyRun.sl.v422 bodyRun.sl.v421 bodyRun.sl.v420 bodyRun.sl.v419 bodyRun.sl.v418 bodyRun.sl.v417 bodyRun.sl.v416 bodyRun.sl.v415 bodyRun.sl.v414 bodyRun.sl.v413 bodyRun.sl.v317 bodyRun.sl.v323 bodyRun.sl.v325 bodyRun.sl.v333 bodyRun.sl.v332 bodyRun.sl.v335 bodyRun.sl.cst_216 bodyRun.sl.cst_217 bodyRun.sl.cst_220 bodyRun.sl.r
  rw [row64_eq harg5 x5, row64_eq harg6 x6, row64_eq harg7 x7, row64_eq harg8 x8, row128_eq harg9 x9, shapeCast_self]
  unfold View.readCov
  rw [l0, l1, a0, a1]
  rfl

end Cert.KernelIdeal.Attn
-- ==== Proof.AttnPoint.lean ====
/- What one grid point of the attention kernel writes, and the array it leaves (hand-written). -/
module

public import proofs.«01_k».proof.Proof.AttnBody
public import proofs.«01_k».proof.Proof.KernelIdealFrame

@[expose] public section

set_option maxRecDepth 16384
set_option maxHeartbeats 4000000

noncomputable section

namespace Cert.KernelIdeal.Attn

open Cert.KernelIdeal Cert.KernelIdeal.Gen
open Idealize.ShloMosaic Idealize.ShloMosaic.TcCoe

variable {F : FTy → Type} [FloatOps F] [Named F]

/-! ## The four stored pieces as one block -/

/-- The block that a grid point writes: head `y₂ / 128` of row `y₁`, at its column `y₂ mod 128`. -/
def outB (i : grid0.Coords) (x2 : S1x512x512.Idx → Elt F .f32) (x3 x4 : S1x2048x512.Idx → Elt F .bf16)
    (x5 x6 x7 x8 : S1x64.Idx → Elt F .f32) (x9 : S1x128.Idx → Elt F .f32) : S1x512x512.Idx → Elt F .bf16 :=
  fun y => hout (k0_pay77 x5 x6 x7 x8) x9
    (fin (qhd x2 (128 * ((y 2).val / 128))) x3 x4 (128 * ((y 2).val / 128)) (i 1).val)
    (ix2 (y 1 : Fin 512) (⟨(y 2).val % 128, Nat.mod_lt _ (by decide)⟩ : Fin 128))

/-- An index of the block is the index of its column's piece, moved to that piece. -/
theorem idx_piece (y : S1x512x512.Idx) (w : ℕ) (hin : ∀ a, (![0, 0, w] : Fin 3 → ℕ) a + S1x512x128.size a ≤ S1x512x512.size a)
    (h : (y 2).val / 128 * 128 = w) :
    (Rect.unit (s := S1x512x512) ![0, 0, w] S1x512x128.size hin).toLoadRect.idx
      (ix3 (0 : Fin 1) (y 1 : Fin 512) (⟨(y 2).val % 128, Nat.mod_lt _ (by decide)⟩ : Fin 128)) = y := by
  have h0 : (y 0).val < 1 := (y 0).isLt
  have h2 : (y 2).val < 512 := (y 2).isLt
  refine funext fun a => Fin.ext ?_
  fin_cases a
  · show 0 + 1 * 0 = (y 0).val
    omega
  · show 0 + 1 * (y 1).val = (y 1).val
    omega
  · show w + 1 * ((y 2).val % 128) = (y 2).val
    omega

/-- Four pieces of 128 columns that tile the block read back as the function they hold. -/
theorem four_read {sg : RefSig} {κ : Kind} {sp : Space} {e : EltTy} {Val : EltTy → Type} (v : View sg κ sp S1x512x512 e) (f : v.ty.Contents Val) (G : S1x512x512.Idx → Val e)
    (w0 w1 w2 w3 : S1x512x128.Idx → Val e)
    (e0 : ∀ y : S1x512x512.Idx, (y 2).val / 128 = 0 → w0 (ix3 (0 : Fin 1) (y 1 : Fin 512) (⟨(y 2).val % 128, Nat.mod_lt _ (by decide)⟩ : Fin 128)) = G y)
    (e1 : ∀ y : S1x512x512.Idx, (y 2).val / 128 = 1 → w1 (ix3 (0 : Fin 1) (y 1 : Fin 512) (⟨(y 2).val % 128, Nat.mod_lt _ (by decide)⟩ : Fin 128)) = G y)
    (e2 : ∀ y : S1x512x512.Idx, (y 2).val / 128 = 2 → w2 (ix3 (0 : Fin 1) (y 1 : Fin 512) (⟨(y 2).val % 128, Nat.mod_lt _ (by decide)⟩ : Fin 128)) = G y)
    (e3 : ∀ y : S1x512x512.Idx, (y 2).val / 128 = 3 → w3 (ix3 (0 : Fin 1) (y 1 : Fin 512) (⟨(y 2).val % 128, Nat.mod_lt _ (by decide)⟩ : Fin 128)) = G y)
    : v.read Val (v.writes Val f [⟨(Rect.unit (s := S1x512x512) ![0, 0, 384] S1x512x128.size inb_S1x512x512_S1x512x128_0_0_384), w3⟩, ⟨(Rect.unit (s := S1x512x512) ![0, 0, 256] S1x512x128.size inb_S1x512x512_S1x512x128_0_0_256), w2⟩, ⟨(Rect.unit (s := S1x512x512) ![0, 0, 128] S1x512x128.size inb_S1x512x512_S1x512x128_0_0_128), w1⟩, ⟨(Rect.unit (s := S1x512x512) ![0, 0, 0] S1x512x128.size inb_S1x512x512_S1x512x128_0_0_0), w0⟩]) = G := by
  funext y
  have h2 : (y 2).val < 512 := (y 2).isLt
  have hc : (y 2).val / 128 = 0 ∨ (y 2).val / 128 = 1 ∨ (y 2).val / 128 = 2 ∨ (y 2).val / 128 = 3 := by omega
  rcases hc with hc | hc | hc | hc
  · refine Eq.trans ?_ (e0 y hc)
    rw [← readAt_hit v (v.writes Val f []) (Rect.unit (s := S1x512x512) ![0, 0, 0] S1x512x128.size inb_S1x512x512_S1x512x128_0_0_0) w0 []]
    have key : v.readAt Val (Rect.unit (s := S1x512x512) ![0, 0, 0] S1x512x128.size inb_S1x512x512_S1x512x128_0_0_0).toLoadRect (v.writes Val f [⟨(Rect.unit (s := S1x512x512) ![0, 0, 384] S1x512x128.size inb_S1x512x512_S1x512x128_0_0_384), w3⟩, ⟨(Rect.unit (s := S1x512x512) ![0, 0, 256] S1x512x128.size inb_S1x512x512_S1x512x128_0_0_256), w2⟩, ⟨(Rect.unit (s := S1x512x512) ![0, 0, 128] S1x512x128.size inb_S1x512x512_S1x512x128_0_0_128), w1⟩, ⟨(Rect.unit (s := S1x512x512) ![0, 0, 0] S1x512x128.size inb_S1x512x512_S1x512x128_0_0_0), w0⟩]) = w0 := by
      rw [readAt_skip _ _ _ _ _ _ (by decide)]; rw [readAt_skip _ _ _ _ _ _ (by decide)]; rw [readAt_skip _ _ _ _ _ _ (by decide)]; rw [readAt_hit]
    rw [readAt_hit]
    refine Eq.trans ?_ (congrFun key _)
    rw [View.readAt_apply]
    exact congrArg _ (idx_piece y 0 _ (by omega)).symm
  · refine Eq.trans ?_ (e1 y hc)
    rw [← readAt_hit v (v.writes Val f []) (Rect.unit (s := S1x512x512) ![0, 0, 128] S1x512x128.size inb_S1x512x512_S1x512x128_0_0_128) w1 []]
    have key : v.readAt Val (Rect.unit (s := S1x512x512) ![0, 0, 128] S1x512x128.size inb_S1x512x512_S1x512x128_0_0_128).toLoadRect (v.writes Val f [⟨(Rect.unit (s := S1x512x512) ![0, 0, 384] S1x512x128.size inb_S1x512x512_S1x512x128_0_0_384), w3⟩, ⟨(Rect.unit (s := S1x512x512) ![0, 0, 256] S1x512x128.size inb_S1x512x512_S1x512x128_0_0_256), w2⟩, ⟨(Rect.unit (s := S1x512x512) ![0, 0, 128] S1x512x128.size inb_S1x512x512_S1x512x128_0_0_128), w1⟩, ⟨(Rect.unit (s := S1x512x512) ![0, 0, 0] S1x512x128.size inb_S1x512x512_S1x512x128_0_0_0), w0⟩]) = w1 := by
      rw [readAt_skip _ _ _ _ _ _ (by decide)]; rw [readAt_skip _ _ _ _ _ _ (by decide)]; rw [readAt_hit]
    rw [readAt_hit]
    refine Eq.trans ?_ (congrFun key _)
    rw [View.readAt_apply]
    exact congrArg _ (idx_piece y 128 _ (by omega)).symm
  · refine Eq.trans ?_ (e2 y hc)
    rw [← readAt_hit v (v.writes Val f []) (Rect.unit (s := S1x512x512) ![0, 0, 256] S1x512x128.size inb_S1x512x512_S1x512x128_0_0_256) w2 []]
    have key : v.readAt Val (Rect.unit (s := S1x512x512) ![0, 0, 256] S1x512x128.size inb_S1x512x512_S1x512x128_0_0_256).toLoadRect (v.writes Val f [⟨(Rect.unit (s := S1x512x512) ![0, 0, 384] S1x512x128.size inb_S1x512x512_S1x512x128_0_0_384), w3⟩, ⟨(Rect.unit (s := S1x512x512) ![0, 0, 256] S1x512x128.size inb_S1x512x512_S1x512x128_0_0_256), w2⟩, ⟨(Rect.unit (s := S1x512x512) ![0, 0, 128] S1x512x128.size inb_S1x512x512_S1x512x128_0_0_128), w1⟩, ⟨(Rect.unit (s := S1x512x512) ![0, 0, 0] S1x512x128.size inb_S1x512x512_S1x512x128_0_0_0), w0⟩]) = w2 := by
      rw [readAt_skip _ _ _ _ _ _ (by decide)]; rw [readAt_hit]
    rw [readAt_hit]
    refine Eq.trans ?_ (congrFun key _)
    rw [View.readAt_apply]
    exact congrArg _ (idx_piece y 256 _ (by omega)).symm
  · refine Eq.trans ?_ (e3 y hc)
    rw [← readAt_hit v (v.writes Val f []) (Rect.unit (s := S1x512x512) ![0, 0, 384] S1x512x128.size inb_S1x512x512_S1x512x128_0_0_384) w3 []]
    have key : v.readAt Val (Rect.unit (s := S1x512x512) ![0, 0, 384] S1x512x128.size inb_S1x512x512_S1x512x128_0_0_384).toLoadRect (v.writes Val f [⟨(Rect.unit (s := S1x512x512) ![0, 0, 384] S1x512x128.size inb_S1x512x512_S1x512x128_0_0_384), w3⟩, ⟨(Rect.unit (s := S1x512x512) ![0, 0, 256] S1x512x128.size inb_S1x512x512_S1x512x128_0_0_256), w2⟩, ⟨(Rect.unit (s := S1x512x512) ![0, 0, 128] S1x512x128.size inb_S1x512x512_S1x512x128_0_0_128), w1⟩, ⟨(Rect.unit (s := S1x512x512) ![0, 0, 0] S1x512x128.size inb_S1x512x512_S1x512x128_0_0_0), w0⟩]) = w3 := by
      rw [readAt_hit]
    rw [readAt_hit]
    refine Eq.trans ?_ (congrFun key _)
    rw [View.readAt_apply]
    exact congrArg _ (idx_piece y 384 _ (by omega)).symm

/-- The block that the body leaves in the result's buffer. -/
theorem body_read (𝒱 : Variants) (c : Dev nD) (bd : Option 𝒱.V) (i : grid0.Coords) (arg2 : Memref sig .tc .vmem S1x512x512 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S4x1024x128 .bf16) (harg11 : arg11.IsWhole) (arg12 : Memref sig .tc .vmem S4x1x1024 .f32) (harg12 : arg12.IsWhole) (arg13 : Memref sig .tc .vmem S4x1x1024 .f32) (harg13 : arg13.IsWhole) (arg14 : Memref sig .tc .vmem S4x128x1024 .f32) (harg14 : arg14.IsWhole) (arg15 : Memref sig .tc .vmem S2x512x1024 .f32) (harg15 : arg15.IsWhole) (x2 : S1x512x512.Idx → Elt F .f32) (x3 x4 : S1x2048x512.Idx → Elt F .bf16) (x5 x6 x7 x8 : S1x64.Idx → Elt F .f32) (x9 : S1x128.Idx → Elt F .f32) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) :
    arg10.view.read (Elt F) (arg10.view.writes (Elt F) f10 (bodyRun (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg5.unread x5) (harg6.unread x6) (harg7.unread x7) (harg8.unread x8) (harg9.unread x9) f10 f11 f12 f13 f14 f15).1) = outB i x2 x3 x4 x5 x6 x7 x8 x9 := by
  unfold bodyRun
  refine four_read arg10.view f10 _ _ _ _ _ ?_ ?_ ?_ ?_
  · intro y hy
    unfold bodyRun.sl.v340
    rw [head0_out]
    refine (shapeCast_addUnit_apply (n := 2) ![512, 128] _ _ _).trans ?_
    unfold outB
    have hw : 128 * ((y 2).val / 128) = 0 := by omega
    rw [hw]
    refine congrArg _ (funext fun a => ?_)
    fin_cases a <;> rfl
  · intro y hy
    unfold bodyRun.sl.v376
    rw [head1_out]
    refine (shapeCast_addUnit_apply (n := 2) ![512, 128] _ _ _).trans ?_
    unfold outB
    have hw : 128 * ((y 2).val / 128) = 128 := by omega
    rw [hw]
    refine congrArg _ (funext fun a => ?_)
    fin_cases a <;> rfl
  · intro y hy
    unfold bodyRun.sl.v412
    rw [head2_out]
    refine (shapeCast_addUnit_apply (n := 2) ![512, 128] _ _ _).trans ?_
    unfold outB
    have hw : 128 * ((y 2).val / 128) = 256 := by omega
    rw [hw]
    refine congrArg _ (funext fun a => ?_)
    fin_cases a <;> rfl
  · intro y hy
    unfold bodyRun.sl.v448
    rw [head3_out]
    refine (shapeCast_addUnit_apply (n := 2) ![512, 128] _ _ _).trans ?_
    unfold outB
    have hw : 128 * ((y 2).val / 128) = 384 := by omega
    rw [hw]
    refine congrArg _ (funext fun a => ?_)
    fin_cases a <;> rfl

end Cert.KernelIdeal.Attn
-- ==== Proof.AttnMath.lean ====
/-
  The arithmetic of a softmax over the extended reals: sums of finite values, the running maximum, and the
  running form of the weighted average (largest score so far, total weight, weighted sum), block by block.
-/
module

public import Idealize.ShloMosaic.Lib.IdealHost
public import Mathlib.Analysis.SpecialFunctions.Pow.Real

@[expose] public section

noncomputable section

namespace Cert.AttnMath

open Idealize.ShloMosaic

/-- A sum of finite values is the sum of the reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The pattern the kernel and the reference write for minus infinity. -/
theorem ofBits_bot : Ideal.ofBits .f32 0xFF800000#32 = ⊥ := by simp [Ideal.ofBits, Ideal.ieee]

/-- The pattern of plus infinity. -/
theorem ofBits_top : Ideal.ofBits .f32 0x7F800000#32 = ⊤ := by simp [Ideal.ofBits, Ideal.ieee]

/-- The pattern of zero. -/
theorem ofBits_zero : Ideal.ofBits .f32 0x00000000#32 = 0 := by simp [Ideal.ofBits, Ideal.ieee]

/-- The pattern of one eighth. -/
theorem ofBits_eighth : Ideal.ofBits .f32 0x3E000000#32 = ((1 / 8 : ℝ) : EReal) := by
  simp [Ideal.ofBits, Ideal.ieee]
  rw [← EReal.coe_mul]
  congr 1
  norm_num

/-- The pattern of the number added to the lambdas is finite. -/
theorem ofBits_fifth : ∃ r : ℝ, Ideal.ofBits .f32 0x3E4CCCCD#32 = (r : EReal) := by
  simp [Ideal.ofBits, Ideal.ieee]
  exact ⟨_, rfl⟩

/-- A score: minus infinity with the weight zero, or a real number with its power of two. -/
def Sc (s : EReal) (w : ℝ) : Prop := (s = ⊥ ∧ w = 0) ∨ ∃ x : ℝ, s = (x : EReal) ∧ w = (2 : ℝ) ^ x

/-- The largest of finitely many scores, one of them a real number, is a real number. -/
theorem fold_max_real {n : ℕ} (f : Fin n → EReal) (h : ∀ k, f k = ⊥ ∨ ∃ x : ℝ, f k = (x : EReal))
    (h1 : ∃ k, ∃ x : ℝ, f k = (x : EReal)) : ∃ r : ℝ, Finset.univ.fold max ⊥ f = (r : EReal) := by
  obtain ⟨k, x, hx⟩ := h1
  have e : Finset.univ.fold max ⊥ f = Finset.univ.sup f := rfl
  rw [e]
  obtain ⟨j, -, hj⟩ := Finset.exists_mem_eq_sup Finset.univ ⟨k, Finset.mem_univ k⟩ f
  rcases h j with hb | ⟨y, hy⟩
  · have := Finset.le_sup (f := f) (Finset.mem_univ k)
    rw [hj, hb, hx] at this
    exact absurd (le_bot_iff.mp this) (EReal.coe_ne_bot x)
  · exact ⟨y, hj.trans hy⟩

/-- The same over any finite set. -/
theorem fold_max_real_of {ι : Type} (S : Finset ι) (f : ι → EReal) (h : ∀ k ∈ S, f k = ⊥ ∨ ∃ x : ℝ, f k = (x : EReal))
    (k : ι) (hk : k ∈ S) (x : ℝ) (hx : f k = (x : EReal)) : ∃ r : ℝ, S.fold max ⊥ f = (r : EReal) := by
  have e : S.fold max ⊥ f = S.sup f := rfl
  rw [e]
  obtain ⟨j, hjS, hj⟩ := Finset.exists_mem_eq_sup S ⟨k, hk⟩ f
  rcases h j hjS with hb | ⟨y, hy⟩
  · have := Finset.le_sup (f := f) hk
    rw [hj, hb, hx] at this
    exact absurd (le_bot_iff.mp this) (EReal.coe_ne_bot x)
  · exact ⟨y, hj.trans hy⟩

/-- The weight of a score against a finite maximum. -/
theorem exp2_sub {s : EReal} {w : ℝ} (h : Sc s w) (r : ℝ) : Ideal.exp2 (s - (r : EReal)) = ((w * (2 : ℝ) ^ (-r) : ℝ) : EReal) := by
  rcases h with ⟨rfl, rfl⟩ | ⟨x, rfl, rfl⟩
  · rw [EReal.bot_sub, Ideal.exp2_bot, zero_mul, EReal.coe_zero]
  · rw [← EReal.coe_sub, Ideal.exp2_coe, ← Real.rpow_add two_pos, ← sub_eq_add_neg]
    rfl

/-- The running state of one column: `m` the largest score so far, `l` the weights' total over `2 ^ m`, `a` the
    weighted sum over `2 ^ m`; `L` and `A` are the total and the weighted sum themselves. -/
def Inv (L A : ℝ) (m l a : EReal) : Prop :=
  (m = ⊥ ∧ l = 0 ∧ a = 0 ∧ L = 0 ∧ A = 0) ∨
    ∃ r : ℝ, m = (r : EReal) ∧ l = ((L * (2 : ℝ) ^ (-r) : ℝ) : EReal) ∧ a = ((A * (2 : ℝ) ^ (-r) : ℝ) : EReal)

/-- Before any block. -/
theorem inv_zero : Inv 0 0 ⊥ 0 0 := Or.inl ⟨rfl, rfl, rfl, rfl, rfl⟩

/-- One block of scores keeps the running state, and leaves a finite maximum. -/
theorem inv_step {n : ℕ} {L A : ℝ} {m l a : EReal} (hI : Inv L A m l a) (s : Fin n → EReal) (w v : Fin n → ℝ)
    (hs : ∀ k, Sc (s k) (w k)) (h1 : ∃ k, ∃ x : ℝ, s k = (x : EReal)) {m' : EReal}
    (hm : m' = max m (Finset.univ.fold max ⊥ s)) :
    ∃ r : ℝ, m' = (r : EReal) ∧
      Ideal.exp2 (m - m') * l + ∑ k, Ideal.exp2 (s k - m') = (((L + ∑ k, w k) * (2 : ℝ) ^ (-r) : ℝ) : EReal) ∧
      Ideal.exp2 (m - m') * a + ∑ k, ((v k : ℝ) : EReal) * Ideal.exp2 (s k - m') =
        (((A + ∑ k, w k * v k) * (2 : ℝ) ^ (-r) : ℝ) : EReal) := by
  obtain ⟨b, hb⟩ := fold_max_real s (fun k => (hs k).imp (fun h => h.1) (fun ⟨x, h⟩ => ⟨x, h.1⟩)) h1
  rw [hb] at hm
  have hS (r : ℝ) : ∑ k, Ideal.exp2 (s k - (r : EReal)) = (((∑ k, w k) * (2 : ℝ) ^ (-r) : ℝ) : EReal) := by
    rw [Finset.sum_mul, ← coe_sum]
    exact Finset.sum_congr rfl fun k _ => exp2_sub (hs k) r
  have hV (r : ℝ) : ∑ k, ((v k : ℝ) : EReal) * Ideal.exp2 (s k - (r : EReal)) =
      (((∑ k, w k * v k) * (2 : ℝ) ^ (-r) : ℝ) : EReal) := by
    rw [Finset.sum_mul, ← coe_sum]
    refine Finset.sum_congr rfl fun k _ => ?_
    rw [exp2_sub (hs k) r, ← EReal.coe_mul]
    congr 1
    ring
  rcases hI with ⟨rfl, rfl, rfl, rfl, rfl⟩ | ⟨r, rfl, rfl, rfl⟩
  · refine ⟨b, ?_, ?_, ?_⟩
    · rw [hm]; exact max_eq_right bot_le
    · rw [hm, max_eq_right bot_le, mul_zero, zero_add, zero_add, hS]
    · rw [hm, max_eq_right bot_le, mul_zero, zero_add, zero_add, hV]
  · have hmax : max (r : EReal) (b : EReal) = ((max r b : ℝ) : EReal) := by
      rcases le_total r b with h | h
      · rw [max_eq_right h, max_eq_right (EReal.coe_le_coe_iff.mpr h)]
      · rw [max_eq_left h, max_eq_left (EReal.coe_le_coe_iff.mpr h)]
    have h2 : Ideal.exp2 ((r : EReal) - ((max r b : ℝ) : EReal)) = (((2 : ℝ) ^ r * (2 : ℝ) ^ (-(max r b)) : ℝ) : EReal) :=
      exp2_sub (Or.inr ⟨r, rfl, rfl⟩) _
    have h3 : (2 : ℝ) ^ r * (2 : ℝ) ^ (-r) = 1 := by
      rw [← Real.rpow_add two_pos, add_neg_cancel, Real.rpow_zero]
    refine ⟨max r b, hm.trans hmax, ?_, ?_⟩
    · rw [hm, hmax, h2, hS, ← EReal.coe_mul, ← EReal.coe_add]
      congr 1
      calc _ = L * ((2 : ℝ) ^ r * (2 : ℝ) ^ (-r)) * (2 : ℝ) ^ (-(max r b)) + (∑ k, w k) * (2 : ℝ) ^ (-(max r b)) := by ring
        _ = _ := by rw [h3]; ring
    · rw [hm, hmax, h2, hV, ← EReal.coe_mul, ← EReal.coe_add]
      congr 1
      calc _ = A * ((2 : ℝ) ^ r * (2 : ℝ) ^ (-r)) * (2 : ℝ) ^ (-(max r b)) + (∑ k, w k * v k) * (2 : ℝ) ^ (-(max r b)) := by ring
        _ = _ := by rw [h3]; ring

/-- The quotient of two finite values, the divisor not zero. -/
theorem div_real (x : ℝ) {y : ℝ} (h : y ≠ 0) : Ideal.div (x : EReal) (y : EReal) = ((x / y : ℝ) : EReal) := by
  rw [Ideal.div_coe h, ← EReal.coe_mul, mul_one_div]

/-- The quotient of the two running sums is the weighted average. -/
theorem div_scaled (A : ℝ) {L : ℝ} (h : L ≠ 0) (r : ℝ) :
    Ideal.div ((A * (2 : ℝ) ^ (-r) : ℝ) : EReal) ((L * (2 : ℝ) ^ (-r) : ℝ) : EReal) = ((A / L : ℝ) : EReal) := by
  have h2 : (2 : ℝ) ^ (-r) ≠ 0 := (Real.rpow_pos_of_pos two_pos _).ne'
  rw [div_real _ (mul_ne_zero h h2), mul_div_mul_right _ _ h2]

/-- The weight of a score against a finite maximum, at base `e`. -/
theorem exp_sub_masked {p : Prop} [Decidable p] (x M : ℝ) :
    Ideal.exp ((if p then (x : EReal) else ⊥) - (M : EReal)) = (((if p then Real.exp x else 0) * Real.exp (-M) : ℝ) : EReal) := by
  split
  · rw [← EReal.coe_sub, Ideal.exp_coe, sub_eq_add_neg, Real.exp_add]
  · rw [EReal.bot_sub, Ideal.exp_bot, zero_mul, EReal.coe_zero]

/-- A power of two at the scale the kernel names is the exponential at one eighth. -/
theorem two_rpow_scale (x : ℝ) : (2 : ℝ) ^ (x * (8 * Real.log 2)⁻¹) = Real.exp (x * (1 / 8)) := by
  have h : Real.log 2 ≠ 0 := (Real.log_pos one_lt_two).ne'
  rw [Real.rpow_def_of_pos two_pos]
  congr 1
  field_simp

/-! ## The causal weighted averages, over the reals -/

/-- The score of the query row `p` against the key row `t`, in the map whose columns begin at `o`. -/
def rsc (q k : ℕ → ℕ → ℝ) (o p t : ℕ) : ℝ := (∑ a : Fin 64, q p (o + a.val) * k t (o + a.val)) * (1 / 8)

/-- The weight of the key row `t` in the query row `p`: none after `p`. -/
def rw_ (q k : ℕ → ℕ → ℝ) (o p t : ℕ) : ℝ := if t ≤ p then Real.exp (rsc q k o p t) else 0

/-- The weights' total. -/
def rden (q k : ℕ → ℕ → ℝ) (o p : ℕ) : ℝ := ∑ t : Fin 2048, rw_ q k o p t.val

/-- The weighted sum of the values' column `d`. -/
def rnum (q k v : ℕ → ℕ → ℝ) (o p d : ℕ) : ℝ := ∑ t : Fin 2048, rw_ q k o p t.val * v t.val d

/-- The weighted average of the values' column `d`. -/
def ravg (q k v : ℕ → ℕ → ℝ) (o p d : ℕ) : ℝ := rnum q k v o p d / rden q k o p

theorem rw_nonneg (q k : ℕ → ℕ → ℝ) (o p t : ℕ) : 0 ≤ rw_ q k o p t := by
  unfold rw_; split
  · exact (Real.exp_pos _).le
  · exact le_rfl

/-- The weights' total is positive: the query's own row counts. -/
theorem rden_pos (q k : ℕ → ℕ → ℝ) (o : ℕ) {p : ℕ} (hp : p < 2048) : 0 < rden q k o p := by
  unfold rden
  refine lt_of_lt_of_le ?_ (Finset.single_le_sum (f := fun t : Fin 2048 => rw_ q k o p t.val) (fun t _ => rw_nonneg q k o p t.val) (Finset.mem_univ ⟨p, hp⟩))
  show 0 < rw_ q k o p p
  unfold rw_; rw [if_pos le_rfl]; exact Real.exp_pos _

/-- A sum whose terms vanish from `N` on stops there. -/
theorem sum_stop (f : ℕ → ℝ) {N M : ℕ} (h : N ≤ M) (hz : ∀ t, N ≤ t → f t = 0) : ∑ t ∈ Finset.range N, f t = ∑ t : Fin M, f t.val := by
  rw [← Finset.sum_range (f := f)]
  refine Finset.sum_subset (Finset.range_mono h) fun t _ ht => hz t ?_
  exact Nat.le_of_not_lt fun hlt => ht (Finset.mem_range.2 hlt)

/-- A sum to the end of block `n` is the sum to its start and the block's own. -/
theorem sum_block (f : ℕ → ℝ) (n : ℕ) :
    ∑ t ∈ Finset.range (512 * (n + 1)), f t = ∑ t ∈ Finset.range (512 * n), f t + ∑ k : Fin 512, f (512 * n + k.val) := by
  rw [show 512 * (n + 1) = 512 * n + 512 by ring, Finset.sum_range_add, Finset.sum_range (n := 512) (f := fun x => f (512 * n + x))]

end Cert.AttnMath

end
-- ==== Proof.AttnRead.lean ====
/-
  The steps of one head of the attention kernel over the extended reals, entry by entry.
-/
module

public import proofs.«01_k».proof.Proof.AttnEntry
public import proofs.«01_k».proof.Proof.AttnMath
public import Idealize.ShloMosaic.Lib.Pointwise

@[expose] public section

set_option maxRecDepth 16384
set_option maxHeartbeats 4000000

noncomputable section

namespace Cert.KernelIdeal.Attn

open Cert.KernelIdeal Cert.KernelIdeal.Gen Cert.AttnMath
open Idealize.ShloMosaic Idealize.ShloMosaic.TcCoe

/-! ## The steps, entry by entry -/

theorem mN_apply (s : FVec Ideal S512x1024 .f32) (m : FVec Ideal S1x1024 .f32) (j : Fin 1024) :
    mN s m (ix2 (0 : Fin 1) j) = max (m (ix2 (0 : Fin 1) j)) (Finset.univ.fold max ⊥ fun x : Fin 512 => s (ix2 x j)) := by
  pointwise [mN]
  rw [ofBits_bot]

theorem wN_apply (s : FVec Ideal S512x1024 .f32) (m : FVec Ideal S1x1024 .f32) (k : Fin 512) (j : Fin 1024) :
    wN s m (ix2 k j) = Ideal.exp2 (s (ix2 k j) - m (ix2 (0 : Fin 1) j)) := by
  pointwise [wN]
  rfl

theorem lN_apply (s : FVec Ideal S512x1024 .f32) (m l : FVec Ideal S1x1024 .f32) (j : Fin 1024) :
    lN s m l (ix2 (0 : Fin 1) j) =
      Ideal.exp2 (m (ix2 (0 : Fin 1) j) - mN s m (ix2 (0 : Fin 1) j)) * l (ix2 (0 : Fin 1) j) +
        ∑ x : Fin 512, Ideal.exp2 (s (ix2 x j) - mN s m (ix2 (0 : Fin 1) j)) := by
  pointwise [lN]
  simp only [wN_apply]
  rfl

theorem aN_apply (s : FVec Ideal S512x1024 .f32) (v : FVec Ideal S512x128 .bf16) (m : FVec Ideal S1x1024 .f32)
    (a : FVec Ideal S128x1024 .f32) (d : Fin 128) (j : Fin 1024) :
    aN s v m a (ix2 d j) =
      Ideal.exp2 (m (ix2 (0 : Fin 1) j) - mN s m (ix2 (0 : Fin 1) j)) * a (ix2 d j) +
        ∑ x : Fin 512, v (ix2 x d) * Ideal.exp2 (s (ix2 x j) - mN s m (ix2 (0 : Fin 1) j)) := by
  pointwise [aN]
  simp only [wN_apply]
  rfl

theorem sc_apply (k : FVec Ideal S512x128 .bf16) (q : FVec Ideal S1024x128 .bf16) (i : Fin 512) (j : Fin 1024) :
    sc k q (ix2 i j) = ∑ x : Fin 128, k (ix2 i x) * q (ix2 j x) := by
  pointwise [sc]

/-- The named scale. -/
theorem scale_eq : Named.named (F := Ideal) κ "scale_log2e" (φ := .f32) 1043900987#32 = (((8 * Real.log 2)⁻¹ : ℝ) : EReal) := rfl

/-- A stacked query at a column of its own map, and zero at a column of the other. -/
theorem qhd_apply (x : S1x512x512.Idx → Ideal .f32) (w : ℕ) (j : Fin 1024) (a : Fin 128) :
    qhd x w (ix2 j a) = if j.val / 512 = a.val / 64 then
      x (ix3 (0 : Fin 1) (⟨j.val % 512, Nat.mod_lt _ (by decide)⟩ : Fin 512) (⟨(w + a.val) % 512, Nat.mod_lt _ (by decide)⟩ : Fin 512)) *
        (((8 * Real.log 2)⁻¹ : ℝ) : EReal) else 0 := by
  pointwise [qhd, k0_pay85, qbl]
  rw [scale_eq]
  have hj := j.isLt
  have ha := a.isLt
  rw [WordCmp.cmpi_slt_ofNat (a := a.val) (b := 64) (by omega) (by decide), WordCmp.cmpi_sge_ofNat (a := a.val) (b := 64) (by omega) (by decide)]
  by_cases h : j.val < 512
  · refine (dif_pos h).trans ((WordCmp.select_ofBool _ _ _).trans ?_)
    simp only [decide_eq_true_eq]
    by_cases h2 : a.val < 64
    · rw [if_pos h2, if_pos (by omega)]
    · rw [if_neg h2, if_neg (by omega)]
  · refine (dif_neg h).trans ((WordCmp.select_ofBool _ _ _).trans ?_)
    simp only [decide_eq_true_eq]
    have e : (j.val - 512) % 512 = j.val % 512 := by omega
    by_cases h2 : 64 ≤ a.val
    · refine (if_pos h2).trans (Eq.trans ?_ (if_pos (by omega)).symm)
      exact congrArg (fun z : Fin 512 => x (ix3 (0 : Fin 1) z (⟨(w + a.val) % 512, Nat.mod_lt _ (by decide)⟩ : Fin 512)) *
        (((8 * Real.log 2)⁻¹ : ℝ) : EReal)) (Fin.ext e)
    · exact (if_neg h2).trans (if_neg (by omega)).symm

/-- The query's row in a stacked column. -/
theorem row_word (j : Fin 1024) :
    Scalar.select (IntOp.cmpi CmpIPredicate.sge (BitVec.ofNat 32 j.val) 512#32)
      (IntOp.subi (BitVec.ofNat 32 j.val) 512#32) (BitVec.ofNat 32 j.val) = BitVec.ofNat 32 (j.val % 512) := by
  have hj := j.isLt
  rw [WordCmp.cmpi_sge_ofNat (a := j.val) (b := 512) (by omega) (by decide), WordCmp.select_ofBool]
  simp only [decide_eq_true_eq]
  by_cases h : 512 ≤ j.val
  · rw [if_pos h]
    show BitVec.ofNat 32 j.val - 512#32 = _
    apply BitVec.eq_of_toNat_eq
    simp
    omega
  · rw [if_neg h, Nat.mod_eq_of_lt (by omega)]

/-- The causal mask. -/
theorem msk_apply (s : FVec Ideal S512x1024 .f32) (i : Fin 512) (j : Fin 1024) :
    msk s (ix2 i j) = if i.val ≤ j.val % 512 then s (ix2 i j) else ⊥ := by
  pointwise [msk, k0_pay78]
  have hi := i.isLt
  rw [ofBits_bot, row_word, WordCmp.cmpi_sle_ofNat (a := i.val) (b := j.val % 512) (by omega) (by omega), WordCmp.select_ofBool]
  simp only [decide_eq_true_eq]

/-- Two averages' difference by lambda, at one entry. -/
theorem dif_apply (lam : FVec Ideal S1x1 .f32) (z : HS Ideal) (d : Fin 128) (q : Fin 512) :
    dif lam z (ix2 d q) =
      Ideal.div (z.2.2 (ix2 d (⟨q.val, by omega⟩ : Fin 1024))) (z.2.1 (ix2 (0 : Fin 1) (⟨q.val, by omega⟩ : Fin 1024))) -
        lam (ix2 (0 : Fin 1) (0 : Fin 1)) *
          Ideal.div (z.2.2 (ix2 d (⟨512 + q.val, by omega⟩ : Fin 1024))) (z.2.1 (ix2 (0 : Fin 1) (⟨512 + q.val, by omega⟩ : Fin 1024))) := by
  pointwise [dif, ahf, lhf]
  have hd := d.isLt
  have hq := q.isLt
  have e1 : d.val % 128 = d.val := Nat.mod_eq_of_lt hd
  have e2 : q.val % 1024 = q.val := Nat.mod_eq_of_lt (by omega)
  have e3 : (512 + q.val) % 1024 = 512 + q.val := Nat.mod_eq_of_lt (by omega)
  simp only [e1, e2, e3]

/-- The normed and weighted output, at one entry. -/
theorem hout_apply (lam : FVec Ideal S1x1 .f32) (g : FVec Ideal S1x128 .f32) (z : HS Ideal) (d : Fin 128) (q : Fin 512) :
    hout lam g z (ix2 q d) =
      dif lam z (ix2 d q) *
          Ideal.rsqrt
            (Ideal.div (∑ x : Fin 128, dif lam z (ix2 x q) * dif lam z (ix2 x q)) (Ideal.ofBits FTy.f32 0x43000000#32) +
              Ideal.ofBits FTy.f32 0x358637BD#32) *
        g (ix2 (0 : Fin 1) d) *
      Ideal.ofBits FTy.f32 0x3F4CCCCD#32 := by
  pointwise [hout, rms]

/-- Lambda. -/
theorem lam_apply (x5 x6 x7 x8 : S1x64.Idx → Ideal .f32) :
    k0_pay77 (F := Ideal) x5 x6 x7 x8 (ix2 (0 : Fin 1) (0 : Fin 1)) =
      Ideal.exp (∑ x : Fin 64, x5 (ix2 (0 : Fin 1) x) * x6 (ix2 (0 : Fin 1) x)) -
        Ideal.exp (∑ x : Fin 64, x7 (ix2 (0 : Fin 1) x) * x8 (ix2 (0 : Fin 1) x)) + Ideal.ofBits FTy.f32 0x3E4CCCCD#32 := by
  pointwise [k0_pay77]

end Cert.KernelIdeal.Attn

end
-- ==== Proof.AttnIdeal.lean ====
/-
  One head of the attention kernel over the extended reals: on finite operands its blocks of running softmax end at the
  two causal weighted averages, and their difference by lambda is what the norm takes.
-/
module

public import proofs.«01_k».proof.Proof.AttnRead

@[expose] public section

set_option maxRecDepth 16384

noncomputable section

namespace Cert.KernelIdeal.Attn

open Cert.KernelIdeal Cert.KernelIdeal.Gen Cert.AttnMath
open Idealize.ShloMosaic Idealize.ShloMosaic.TcCoe

/-! ## The running state of one column -/

section Head

variable (x2 : S1x512x512.Idx → Ideal .f32) (x3 x4 : S1x2048x512.Idx → Ideal .bf16) (q k v : ℕ → ℕ → ℝ) (n w : ℕ)
variable (hn : n < 4) (hw : w + 128 ≤ 512)
variable (h2 : ∀ y, x2 y = ((q (512 * n + (y 1).val) (y 2).val : ℝ) : EReal))
variable (h3 : ∀ y, x3 y = ((k (y 1).val (y 2).val : ℝ) : EReal))
variable (h4 : ∀ y, x4 y = ((v (y 1).val (y 2).val : ℝ) : EReal))

include hn hw h2 h3 in
/-- The score of a stacked column against a key row, before the mask: the exponent of two. -/
theorem score_eq (b : ℕ) (hb : b < 4) (i : Fin 512) (j : Fin 1024) :
    sc (kbv x3 w b) (qhd x2 w) (ix2 i j) =
      (((∑ a : Fin 64, q (512 * n + j.val % 512) (w + 64 * (j.val / 512) + a.val) * k (512 * b + i.val) (w + 64 * (j.val / 512) + a.val)) *
        (8 * Real.log 2)⁻¹ : ℝ) : EReal) := by
  have hi := i.isLt
  have hj := j.isLt
  rw [sc_apply]
  have term (x : Fin 128) : kbv x3 w b (ix2 i x) * qhd x2 w (ix2 j x) =
      ((if j.val / 512 = x.val / 64 then q (512 * n + j.val % 512) (w + x.val) * k (512 * b + i.val) (w + x.val) * (8 * Real.log 2)⁻¹ else 0 : ℝ) : EReal) := by
    have hx := x.isLt
    have ek : kbv x3 w b (ix2 i x) = ((k (512 * b + i.val) (w + x.val) : ℝ) : EReal) := by
      unfold kbv
      rw [h3]
      show ((k ((512 * b + i.val) % 2048) ((w + x.val) % 512) : ℝ) : EReal) = _
      rw [Nat.mod_eq_of_lt (by omega), Nat.mod_eq_of_lt (by omega)]
    rw [ek, qhd_apply, h2]
    show ((k (512 * b + i.val) (w + x.val) : ℝ) : EReal) * (if j.val / 512 = x.val / 64 then
      ((q (512 * n + j.val % 512) ((w + x.val) % 512) : ℝ) : EReal) * (((8 * Real.log 2)⁻¹ : ℝ) : EReal) else 0) = _
    rw [Nat.mod_eq_of_lt (show w + x.val < 512 by omega)]
    split
    · rw [← EReal.coe_mul, ← EReal.coe_mul]
      congr 1
      ring
    · rw [mul_zero, EReal.coe_zero]
  rw [Finset.sum_congr rfl fun x _ => term x, coe_sum]
  congr 1
  rw [Finset.sum_mul, Fin.sum_univ_add (a := 64) (b := 64) (f := fun x : Fin 128 => (if j.val / 512 = x.val / 64 then
    q (512 * n + j.val % 512) (w + x.val) * k (512 * b + i.val) (w + x.val) * (8 * Real.log 2)⁻¹ else 0 : ℝ))]
  have hc : j.val / 512 = 0 ∨ j.val / 512 = 1 := by omega
  rcases hc with hc | hc
  · refine (congrArg₂ (· + ·) (Finset.sum_congr rfl fun a _ => ?_) (Finset.sum_eq_zero fun a _ => ?_)).trans (add_zero _)
    · have ha := a.isLt
      rw [if_pos (by show j.val / 512 = a.val / 64; omega), hc]
      rfl
    · have ha := a.isLt
      exact if_neg (by show ¬ j.val / 512 = (64 + a.val) / 64; omega)
  · refine (congrArg₂ (· + ·) (Finset.sum_eq_zero fun a _ => ?_) (Finset.sum_congr rfl fun a _ => ?_)).trans (zero_add _)
    · have ha := a.isLt
      exact if_neg (by show ¬ j.val / 512 = a.val / 64; omega)
    · have ha := a.isLt
      have e : w + 64 * 1 + a.val = w + (64 + a.val) := by omega
      rw [if_pos (by show j.val / 512 = (64 + a.val) / 64; omega), hc, e]
      rfl

/-- The weight of a score is the exponential at one eighth. -/
theorem weight_eq (o p t : ℕ) :
    (2 : ℝ) ^ ((∑ a : Fin 64, q p (o + a.val) * k t (o + a.val)) * (8 * Real.log 2)⁻¹) = Real.exp (rsc q k o p t) :=
  two_rpow_scale _

include hn hw h2 h3 h4 in
/-- After `b` whole blocks before the query block, the column's running state. -/
theorem hst_inv (b : ℕ) (hb : b ≤ n) (d : Fin 128) (j : Fin 1024) :
    Inv (∑ t ∈ Finset.range (512 * b), rw_ q k (w + 64 * (j.val / 512)) (512 * n + j.val % 512) t)
      (∑ t ∈ Finset.range (512 * b), rw_ q k (w + 64 * (j.val / 512)) (512 * n + j.val % 512) t * v t (w + d.val))
      ((hst (qhd x2 w) x3 x4 w b hs0).1 (ix2 (0 : Fin 1) j)) ((hst (qhd x2 w) x3 x4 w b hs0).2.1 (ix2 (0 : Fin 1) j))
      ((hst (qhd x2 w) x3 x4 w b hs0).2.2 (ix2 d j)) := by
  induction b with
  | zero =>
    rw [Nat.mul_zero, Finset.range_zero, Finset.sum_empty, Finset.sum_empty]
    refine Or.inl ⟨ofBits_bot, ofBits_zero, ofBits_zero, rfl, rfl⟩
  | succ b ih =>
    have hj := j.isLt
    have hd := d.isLt
    have hvv (x : Fin 512) : kbv x4 w b (ix2 x d) = ((v (512 * b + x.val) (w + d.val) : ℝ) : EReal) := by
      have hx := x.isLt
      unfold kbv
      rw [h4]
      show ((v ((512 * b + x.val) % 2048) ((w + d.val) % 512) : ℝ) : EReal) = _
      rw [Nat.mod_eq_of_lt (by omega), Nat.mod_eq_of_lt (by omega)]
    obtain ⟨r, e1, e2, e3⟩ := inv_step (ih (by omega)) (fun x : Fin 512 => sc (kbv x3 w b) (qhd x2 w) (ix2 x j))
      (fun x => rw_ q k (w + 64 * (j.val / 512)) (512 * n + j.val % 512) (512 * b + x.val)) (fun x => v (512 * b + x.val) (w + d.val))
      (fun x => by
        have hx := x.isLt
        refine Or.inr ⟨_, score_eq x2 x3 q k n w hn hw h2 h3 b (by omega) x j, ?_⟩
        rw [weight_eq]
        exact if_pos (by omega))
      ⟨0, _, score_eq x2 x3 q k n w hn hw h2 h3 b (by omega) 0 j⟩
      (mN_apply (sc (kbv x3 w b) (qhd x2 w)) (hst (qhd x2 w) x3 x4 w b hs0).1 j)
    refine Or.inr ⟨r, e1, ?_, ?_⟩
    · rw [sum_block]
      exact (lN_apply _ _ _ j).trans e2
    · rw [sum_block, ← e3]
      refine (aN_apply _ _ _ _ d j).trans ?_
      simp only [hvv]

include hn hw h2 h3 h4 in
/-- After the masked block the two sums' quotient is the causal weighted average. -/
theorem fin_avg (d : Fin 128) (j : Fin 1024) :
    Ideal.div ((fin (qhd x2 w) x3 x4 w n).2.2 (ix2 d j)) ((fin (qhd x2 w) x3 x4 w n).2.1 (ix2 (0 : Fin 1) j)) =
      ((ravg q k v (w + 64 * (j.val / 512)) (512 * n + j.val % 512) (w + d.val) : ℝ) : EReal) := by
  have hj := j.isLt
  have hd := d.isLt
  have hvv (x : Fin 512) : kbv x4 w n (ix2 x d) = ((v (512 * n + x.val) (w + d.val) : ℝ) : EReal) := by
    have hx := x.isLt
    unfold kbv
    rw [h4]
    show ((v ((512 * n + x.val) % 2048) ((w + d.val) % 512) : ℝ) : EReal) = _
    rw [Nat.mod_eq_of_lt (by omega), Nat.mod_eq_of_lt (by omega)]
  obtain ⟨r, e1, e2, e3⟩ := inv_step (hst_inv x2 x3 x4 q k v n w hn hw h2 h3 h4 n le_rfl d j)
    (fun x : Fin 512 => msk (sc (kbv x3 w n) (qhd x2 w)) (ix2 x j))
    (fun x => rw_ q k (w + 64 * (j.val / 512)) (512 * n + j.val % 512) (512 * n + x.val)) (fun x => v (512 * n + x.val) (w + d.val))
    (fun x => by
      have hx := x.isLt
      show Sc (msk (sc (kbv x3 w n) (qhd x2 w)) (ix2 x j)) _
      rw [msk_apply]
      by_cases h : x.val ≤ j.val % 512
      · rw [if_pos h]
        refine Or.inr ⟨_, score_eq x2 x3 q k n w hn hw h2 h3 n hn x j, ?_⟩
        rw [weight_eq]
        exact if_pos (by omega)
      · rw [if_neg h]
        exact Or.inl ⟨rfl, if_neg (by omega)⟩)
    ⟨0, _, by
      show msk (sc (kbv x3 w n) (qhd x2 w)) (ix2 0 j) = _
      rw [msk_apply, if_pos (show (0 : Fin 512).val ≤ j.val % 512 from Nat.zero_le _)]
      exact score_eq x2 x3 q k n w hn hw h2 h3 n hn 0 j⟩
    (mN_apply (msk (sc (kbv x3 w n) (qhd x2 w))) (hst (qhd x2 w) x3 x4 w n hs0).1 j)
  have hL : (fin (qhd x2 w) x3 x4 w n).2.1 (ix2 (0 : Fin 1) j) = _ := (lN_apply _ _ _ j).trans e2
  have hA0 := aN_apply (msk (sc (kbv x3 w n) (qhd x2 w))) (kbv x4 w n) (hst (qhd x2 w) x3 x4 w n hs0).1 (hst (qhd x2 w) x3 x4 w n hs0).2.2 d j
  simp only [hvv] at hA0
  have hA : (fin (qhd x2 w) x3 x4 w n).2.2 (ix2 d j) = _ := hA0.trans e3
  rw [hL, hA, ← sum_block, ← sum_block,
    sum_stop (fun t => rw_ q k (w + 64 * (j.val / 512)) (512 * n + j.val % 512) t) (M := 2048) (by omega) (fun t ht => if_neg (by omega)),
    sum_stop (fun t => rw_ q k (w + 64 * (j.val / 512)) (512 * n + j.val % 512) t * v t (w + d.val)) (M := 2048) (by omega)
      (fun t ht => by rw [show rw_ q k (w + 64 * (j.val / 512)) (512 * n + j.val % 512) t = 0 from if_neg (by omega), zero_mul])]
  exact div_scaled _ (rden_pos q k _ (by omega)).ne' r

include hn hw h2 h3 h4 in
/-- The difference that the norm takes. -/
theorem dif_eq (lam : FVec Ideal S1x1 .f32) (lr : ℝ) (hl : lam (ix2 (0 : Fin 1) (0 : Fin 1)) = (lr : EReal)) (d : Fin 128) (y : Fin 512) :
    dif lam (fin (qhd x2 w) x3 x4 w n) (ix2 d y) =
      ((ravg q k v w (512 * n + y.val) (w + d.val) - lr * ravg q k v (w + 64) (512 * n + y.val) (w + d.val) : ℝ) : EReal) := by
  have hy := y.isLt
  rw [dif_apply, hl, fin_avg x2 x3 x4 q k v n w hn hw h2 h3 h4, fin_avg x2 x3 x4 q k v n w hn hw h2 h3 h4, ← EReal.coe_mul, ← EReal.coe_sub]
  have e1 : y.val / 512 = 0 := by omega
  have e2 : y.val % 512 = y.val := by omega
  have e3 : (512 + y.val) / 512 = 1 := by omega
  have e4 : (512 + y.val) % 512 = y.val := by omega
  simp only [e1, e2, e3, e4, Nat.mul_zero, Nat.mul_one, Nat.add_zero]

end Head

end Cert.KernelIdeal.Attn

end
-- ==== Proof.AttnRef.lean ====
/-
  The reference over the extended reals, on finite operands: its attention weights and their difference by lambda, read
  at an index, are the causal weighted averages of the kernel's side.
-/
module

public import proofs.«01_k».proof.Proof.Gen.ReferenceIdeal.Read
public import proofs.«01_k».proof.Proof.AttnMath
public import Idealize.ShloMosaic.Lib.WordCmp
public import Idealize.ShloMosaic.Lib.Pointwise

@[expose] public section

set_option maxRecDepth 16384
set_option maxHeartbeats 4000000

noncomputable section

namespace Cert.ReferenceIdeal.Attn

open Cert.ReferenceIdeal Cert.ReferenceIdeal.Gen Cert.ReferenceIdeal.Read Cert.AttnMath
open Idealize.ShloMosaic Idealize.ShloMosaic.TcCoe

section Ref

variable (x0 x1 x2 : (⟨S32x2048x512, .f32⟩ : BufTy).Contents (Elt Ideal)) (x3 x4 x5 x6 : (⟨S1x64, .f32⟩ : BufTy).Contents (Elt Ideal))
variable (x7 : (⟨S1x128, .f32⟩ : BufTy).Contents (Elt Ideal))
variable (q k v : ℕ → ℕ → ℕ → ℝ) (lr : ℝ)
variable (h0 : ∀ i, x0 i = ((q (i 0).val (i 1).val (i 2).val : ℝ) : EReal))
variable (h1 : ∀ i, x1 i = ((k (i 0).val (i 1).val (i 2).val : ℝ) : EReal))
variable (h2 : ∀ i, x2 i = ((v (i 0).val (i 1).val (i 2).val : ℝ) : EReal))
variable (hl : ∀ i, val_main_v14 (F := Ideal) x3 x4 x5 x6 i = (lr : EReal))

include h0 in
/-- The queries by head and map. -/
theorem q_apply (i : S32x2048x4x2x64.Idx) :
    val_main_v0 (F := Ideal) x0 i = ((q (i 0).val (i 1).val (128 * (i 2).val + 64 * (i 3).val + (i 4).val) : ℝ) : EReal) := by
  have b0 : (i 0).val < 32 := (i 0).isLt
  have b1 : (i 1).val < 2048 := (i 1).isLt
  have b2 : (i 2).val < 4 := (i 2).isLt
  have b3 : (i 3).val < 2 := (i 3).isLt
  have b4 : (i 4).val < 64 := (i 4).isLt
  rw [val_main_v0_apply, h0]
  show ((q ((((((i 0).val * 2048 + (i 1).val) * 4 + (i 2).val) * 2 + (i 3).val) * 64 + (i 4).val) / 1048576) ((((((i 0).val * 2048 + (i 1).val) * 4 + (i 2).val) * 2 + (i 3).val) * 64 + (i 4).val) / 512 % 2048) ((((((i 0).val * 2048 + (i 1).val) * 4 + (i 2).val) * 2 + (i 3).val) * 64 + (i 4).val) % 512) : ℝ) : EReal) = _
  congr 2 <;> omega

include h1 in
/-- The keys by head and map. -/
theorem k_apply (i : S32x2048x4x2x64.Idx) :
    val_main_v1 (F := Ideal) x1 i = ((k (i 0).val (i 1).val (128 * (i 2).val + 64 * (i 3).val + (i 4).val) : ℝ) : EReal) :=
  (val_main_v1_apply x1 i).trans ((val_main_v0_apply x1 i).symm.trans (q_apply x1 k h1 i))

include h2 in
/-- The values by head. -/
theorem v_apply (i : S32x2048x4x128.Idx) :
    val_main_v2 (F := Ideal) x2 i = ((v (i 0).val (i 1).val (128 * (i 2).val + (i 3).val) : ℝ) : EReal) := by
  have b0 : (i 0).val < 32 := (i 0).isLt
  have b1 : (i 1).val < 2048 := (i 1).isLt
  have b2 : (i 2).val < 4 := (i 2).isLt
  have b3 : (i 3).val < 128 := (i 3).isLt
  rw [val_main_v2_apply, h2]
  show ((v (((((i 0).val * 2048 + (i 1).val) * 4 + (i 2).val) * 128 + (i 3).val) / 1048576) (((((i 0).val * 2048 + (i 1).val) * 4 + (i 2).val) * 128 + (i 3).val) / 512 % 2048) (((((i 0).val * 2048 + (i 1).val) * 4 + (i 2).val) * 128 + (i 3).val) % 512) : ℝ) : EReal) = _
  congr 2 <;> omega

/-- The causal mask. -/
theorem mask_apply (i : S32x4x2x2048x2048.Idx) :
    val_main_call0_v1 (F := Ideal) i = BitVec.ofBool (decide ((i 4).val ≤ (i 3).val)) := by
  have b3 : (i 3).val < 2048 := (i 3).isLt
  have b4 : (i 4).val < 2048 := (i 4).isLt
  rw [val_main_call0_v1_apply, val_main_v20_apply, val_main_v18_apply, val_main_v19_apply, val_main_v16_apply, val_main_v17_apply,
    val_main_v15_apply, val_main_v15_apply]
  exact WordCmp.cmpi_sle_ofNat (a := (i 4).val) (b := (i 3).val) (by omega) (by omega)

include h0 h1 in
/-- The masked scores. -/
theorem s_apply (i : S32x4x2x2048x2048.Idx) :
    val_main_v24 (F := Ideal) x0 x1 i =
      if (i 4).val ≤ (i 3).val then ((rsc (q (i 0).val) (k (i 0).val) (128 * (i 1).val + 64 * (i 2).val) (i 3).val (i 4).val : ℝ) : EReal) else ⊥ := by
  rw [val_main_v24_apply, mask_apply, WordCmp.select_ofBool, val_main_v23_apply, val_main_v21_apply, val_main_v22_apply, val_main_cst_2_apply,
    val_main_call0_v2_apply, val_main_call0_v0_apply, val_main_cst_3_apply, Ideal.ofBits_def, Ideal.ofBits_def, ofBits_bot, ofBits_eighth]
  simp only [decide_eq_true_eq]
  split
  · have e (a : Fin 64) : val_main_v0 (F := Ideal) x0 (lidx_main_v21 i a) * val_main_v1 (F := Ideal) x1 (ridx_main_v21 i a) =
        ((q (i 0).val (i 3).val (128 * (i 1).val + 64 * (i 2).val + a.val) * k (i 0).val (i 4).val (128 * (i 1).val + 64 * (i 2).val + a.val) : ℝ) : EReal) := by
      rw [q_apply x0 q h0, k_apply x1 k h1, EReal.coe_mul]
    rw [Finset.sum_congr rfl fun a _ => e a, coe_sum, Ideal.mulf_def, ← EReal.coe_mul]
    rfl
  · rfl

include h0 h1 in
/-- A row's largest score is a real number. -/
theorem max_real (i : S32x4x2x2048.Idx) : ∃ M : ℝ, val_main_v27 (F := Ideal) x0 x1 i = (M : EReal) := by
  have e : ∃ M : ℝ, val_main_v25 (F := Ideal) x0 x1 i = (M : EReal) := by
    have e : val_main_v25 (F := Ideal) x0 x1 i = _ :=
      Host.reduce_eq_fold_single (α := Ideal .f32) (s := S32x4x2x2048x2048) (FloatOps.maximumf (F := Ideal) (φ := .f32))
        (fun j => val_main_v24 (F := Ideal) x0 x1 j) (val_main_cst_4 (F := Ideal)) reducesTo_S32x4x2x2048x2048_S32x4x2x2048_d4 (by decide) h_S_ i
    rw [e, val_main_cst_4_apply, Ideal.ofBits_def, ofBits_bot]
    refine fold_max_real_of _ _ (fun t _ => ?_) ⟨(i 3).val, (i 3).isLt⟩ (Finset.mem_univ _) _
      ((s_apply x0 x1 q k h0 h1 _).trans (if_pos (le_refl (i 3).val)))
    rw [Function.comp_apply, s_apply x0 x1 q k h0 h1]
    split
    · exact Or.inr ⟨_, rfl⟩
    · exact Or.inl rfl
  obtain ⟨M, hM⟩ := e
  refine ⟨M, ?_⟩
  rw [val_main_v27_apply, val_main_v26_apply, val_main_cst_5_apply, Ideal.ofBits_def, ofBits_bot, hM]
  exact max_eq_right bot_le

include h0 h1 in
/-- The attention weights. -/
theorem p_apply (i : S32x4x2x2048x2048.Idx) :
    val_main_v35 (F := Ideal) x0 x1 i =
      ((rw_ (q (i 0).val) (k (i 0).val) (128 * (i 1).val + 64 * (i 2).val) (i 3).val (i 4).val /
        rden (q (i 0).val) (k (i 0).val) (128 * (i 1).val + 64 * (i 2).val) (i 3).val : ℝ) : EReal) := by
  have b3 : (i 3).val < 2048 := (i 3).isLt
  obtain ⟨M, hM⟩ := max_real x0 x1 q k h0 h1 (idx_main_v28 (idx_main_v29 i))
  have ew (j : S32x4x2x2048x2048.Idx) (hj : idx_main_v28 (idx_main_v29 j) = idx_main_v28 (idx_main_v29 i)) :
      val_main_v31 (F := Ideal) x0 x1 j =
        ((rw_ (q (j 0).val) (k (j 0).val) (128 * (j 1).val + 64 * (j 2).val) (j 3).val (j 4).val * Real.exp (-M) : ℝ) : EReal) := by
    rw [val_main_v31_apply, val_main_v30_apply, val_main_v29_apply, val_main_v28_apply, hj, hM, s_apply x0 x1 q k h0 h1]
    exact exp_sub_masked _ M
  have hE : Real.exp (-M) ≠ 0 := (Real.exp_pos _).ne'
  have hd := (rden_pos (q (i 0).val) (k (i 0).val) (128 * (i 1).val + 64 * (i 2).val) b3).ne'
  have es : val_main_v34 (F := Ideal) x0 x1 i =
      ((rden (q (i 0).val) (k (i 0).val) (128 * (i 1).val + 64 * (i 2).val) (i 3).val * Real.exp (-M) : ℝ) : EReal) := by
    rw [val_main_v34_apply, val_main_v33_apply, val_main_v32_apply, val_main_cst_6_apply, Ideal.ofBits_def, ofBits_zero, zero_add,
      Finset.sum_congr rfl fun t _ => ew (idx_main_v32 (idx_main_v33 (idx_main_v34 i)) t)
        (funext fun a => Fin.ext (by match a with | ⟨0, _⟩ => rfl | ⟨1, _⟩ => rfl | ⟨2, _⟩ => rfl | ⟨3, _⟩ => rfl)), coe_sum]
    unfold rden
    rw [Finset.sum_mul]
  rw [val_main_v35_apply, ew i rfl, es]
  exact (div_real _ (mul_ne_zero hd hE)).trans (congrArg _ (mul_div_mul_right _ _ hE))

include h0 h1 h2 hl in
/-- The difference of the two averages. -/
theorem d_apply (i : S32x2048x4x128.Idx) :
    val_main_v44 (F := Ideal) x0 x1 x2 x3 x4 x5 x6 i =
      ((ravg (q (i 0).val) (k (i 0).val) (v (i 0).val) (128 * (i 2).val) (i 1).val (128 * (i 2).val + (i 3).val) -
        lr * ravg (q (i 0).val) (k (i 0).val) (v (i 0).val) (128 * (i 2).val + 64) (i 1).val (128 * (i 2).val + (i 3).val) : ℝ) : EReal) := by
  have b0 : (i 0).val < 32 := (i 0).isLt
  have b1 : (i 1).val < 2048 := (i 1).isLt
  have b2 : (i 2).val < 4 := (i 2).isLt
  have b3 : (i 3).val < 128 := (i 3).isLt
  rw [val_main_v44_apply, val_main_v43_apply]
  have e (t : Fin 2048) : val_main_v2 (F := Ideal) x2 (lidx_main_v43 (idx_main_v44 i) t) * val_main_v42 (F := Ideal) x0 x1 x3 x4 x5 x6 (ridx_main_v43 (idx_main_v44 i) t) =
      ((rw_ (q (i 0).val) (k (i 0).val) (128 * (i 2).val) (i 1).val t.val * v (i 0).val t.val (128 * (i 2).val + (i 3).val) / rden (q (i 0).val) (k (i 0).val) (128 * (i 2).val) (i 1).val -
        lr * (rw_ (q (i 0).val) (k (i 0).val) (128 * (i 2).val + 64) (i 1).val t.val * v (i 0).val t.val (128 * (i 2).val + (i 3).val) /
          rden (q (i 0).val) (k (i 0).val) (128 * (i 2).val + 64) (i 1).val) : ℝ) : EReal) := by
    have bt := t.isLt
    rw [v_apply x2 v h2, val_main_v42_apply, val_main_v41_apply, val_main_v40_apply, hl, val_main_v37_apply, val_main_v36_apply, val_main_v39_apply,
      val_main_v38_apply, p_apply x0 x1 q k h0 h1, p_apply x0 x1 q k h0 h1]
    have z0 : ((((i 0).val * 4 + (i 2).val) * 2048 + (i 1).val) * 2048 + t.val) / 16777216 = (i 0).val := by omega
    have z1 : ((((i 0).val * 4 + (i 2).val) * 2048 + (i 1).val) * 2048 + t.val) / 4194304 % 4 = (i 2).val := by omega
    have z2 : ((((i 0).val * 4 + (i 2).val) * 2048 + (i 1).val) * 2048 + t.val) / 2048 % 2048 = (i 1).val := by omega
    have z3 : ((((i 0).val * 4 + (i 2).val) * 2048 + (i 1).val) * 2048 + t.val) % 2048 = t.val := by omega
    show ((v (i 0).val t.val (128 * (i 2).val + (i 3).val) : ℝ) : EReal) * (((rw_ (q (((((i 0).val * 4 + (i 2).val) * 2048 + (i 1).val) * 2048 + t.val) / 16777216)) (k (((((i 0).val * 4 + (i 2).val) * 2048 + (i 1).val) * 2048 + t.val) / 16777216)) (128 * (((((i 0).val * 4 + (i 2).val) * 2048 + (i 1).val) * 2048 + t.val) / 4194304 % 4) + 64 * 0) (((((i 0).val * 4 + (i 2).val) * 2048 + (i 1).val) * 2048 + t.val) / 2048 % 2048) (((((i 0).val * 4 + (i 2).val) * 2048 + (i 1).val) * 2048 + t.val) % 2048) / rden (q (((((i 0).val * 4 + (i 2).val) * 2048 + (i 1).val) * 2048 + t.val) / 16777216)) (k (((((i 0).val * 4 + (i 2).val) * 2048 + (i 1).val) * 2048 + t.val) / 16777216)) (128 * (((((i 0).val * 4 + (i 2).val) * 2048 + (i 1).val) * 2048 + t.val) / 4194304 % 4) + 64 * 0) (((((i 0).val * 4 + (i 2).val) * 2048 + (i 1).val) * 2048 + t.val) / 2048 % 2048) : ℝ) : EReal) - (lr : EReal) * ((rw_ (q (((((i 0).val * 4 + (i 2).val) * 2048 + (i 1).val) * 2048 + t.val) / 16777216)) (k (((((i 0).val * 4 + (i 2).val) * 2048 + (i 1).val) * 2048 + t.val) / 16777216)) (128 * (((((i 0).val * 4 + (i 2).val) * 2048 + (i 1).val) * 2048 + t.val) / 4194304 % 4) + 64 * (1 + 0)) (((((i 0).val * 4 + (i 2).val) * 2048 + (i 1).val) * 2048 + t.val) / 2048 % 2048) (((((i 0).val * 4 + (i 2).val) * 2048 + (i 1).val) * 2048 + t.val) % 2048) / rden (q (((((i 0).val * 4 + (i 2).val) * 2048 + (i 1).val) * 2048 + t.val) / 16777216)) (k (((((i 0).val * 4 + (i 2).val) * 2048 + (i 1).val) * 2048 + t.val) / 16777216)) (128 * (((((i 0).val * 4 + (i 2).val) * 2048 + (i 1).val) * 2048 + t.val) / 4194304 % 4) + 64 * (1 + 0)) (((((i 0).val * 4 + (i 2).val) * 2048 + (i 1).val) * 2048 + t.val) / 2048 % 2048) : ℝ) : EReal)) = _
    rw [z0, z1, z2, z3, ← EReal.coe_mul, ← EReal.coe_sub, ← EReal.coe_mul]
    congr 1
    rw [Nat.mul_zero, Nat.add_zero, Nat.add_zero]
    ring
  rw [Finset.sum_congr rfl fun t _ => e t, coe_sum]
  congr 1
  unfold ravg rnum
  rw [Finset.sum_sub_distrib, ← Finset.mul_sum, Finset.sum_div, Finset.sum_div]

/-- What the norm takes at one column of the head. -/
def rdif (q k v : ℕ → ℕ → ℝ) (lr : ℝ) (w p d : ℕ) : ℝ := ravg q k v w p (w + d) - lr * ravg q k v (w + 64) p (w + d)

include h0 h1 h2 hl in
/-- The reference's result at an index. -/
theorem out_apply (i : S32x2048x512.Idx) :
    val_main_v62 (F := Ideal) x0 x1 x2 x3 x4 x5 x6 x7 i =
      ((rdif (q (i 0).val) (k (i 0).val) (v (i 0).val) lr (128 * ((i 2).val / 128)) (i 1).val ((i 2).val % 128) : ℝ) : EReal) *
          Ideal.rsqrt (Ideal.div (∑ x : Fin 128,
              ((rdif (q (i 0).val) (k (i 0).val) (v (i 0).val) lr (128 * ((i 2).val / 128)) (i 1).val x.val : ℝ) : EReal) *
                ((rdif (q (i 0).val) (k (i 0).val) (v (i 0).val) lr (128 * ((i 2).val / 128)) (i 1).val x.val : ℝ) : EReal))
            (Ideal.ofBits FTy.f32 0x43000000#32) + Ideal.ofBits FTy.f32 0x358637BD#32) *
        x7 (ix2 (0 : Fin 1) (⟨(i 2).val % 128, Nat.mod_lt _ (by decide)⟩ : Fin 128)) * Ideal.ofBits FTy.f32 0x3F4CCCCD#32 := by
  have b0 : (i 0).val < 32 := (i 0).isLt
  have b1 : (i 1).val < 2048 := (i 1).isLt
  have b2 : (i 2).val < 512 := (i 2).isLt
  have z0 : (((i 0).val * 2048 + (i 1).val) * 512 + (i 2).val) / 1048576 = (i 0).val := by omega
  have z1 : (((i 0).val * 2048 + (i 1).val) * 512 + (i 2).val) / 512 % 2048 = (i 1).val := by omega
  have z2 : (((i 0).val * 2048 + (i 1).val) * 512 + (i 2).val) / 128 % 4 = (i 2).val / 128 := by omega
  have z3 : (((i 0).val * 2048 + (i 1).val) * 512 + (i 2).val) % 128 = (i 2).val % 128 := by omega
  have D (j : S32x2048x4x128.Idx) (e0 : (j 0).val = (i 0).val) (e1 : (j 1).val = (i 1).val) (e2 : (j 2).val = (i 2).val / 128) :
      val_main_v44 (F := Ideal) x0 x1 x2 x3 x4 x5 x6 j =
        ((rdif (q (i 0).val) (k (i 0).val) (v (i 0).val) lr (128 * ((i 2).val / 128)) (i 1).val (j 3).val : ℝ) : EReal) := by
    rw [d_apply x0 x1 x2 x3 x4 x5 x6 q k v lr h0 h1 h2 hl, e0, e1, e2]
    rfl
  have S (a : Fin 128) : val_main_v45 (F := Ideal) x0 x1 x2 x3 x4 x5 x6 (idx_main_v46 (idx_main_v47 (idx_main_v53 (idx_main_v61 i))) a) =
      ((rdif (q (i 0).val) (k (i 0).val) (v (i 0).val) lr (128 * ((i 2).val / 128)) (i 1).val a.val : ℝ) : EReal) *
        ((rdif (q (i 0).val) (k (i 0).val) (v (i 0).val) lr (128 * ((i 2).val / 128)) (i 1).val a.val : ℝ) : EReal) := by
    rw [val_main_v45_apply, D _ z0 z1 z2]
    rfl
  rw [val_main_v62_apply, val_main_v61_apply, val_main_v60_apply, val_main_v58_apply, val_main_v54_apply, val_main_v53_apply, val_main_v52_apply,
    val_main_v51_apply, val_main_v49_apply, val_main_v47_apply, val_main_v46_apply, val_main_v48_apply, val_main_v50_apply, val_main_v57_apply,
    val_main_v56_apply, val_main_v55_apply, val_main_v59_apply, val_main_cst_7_apply, val_main_cst_8_apply, val_main_cst_9_apply,
    val_main_cst_10_apply, Ideal.ofBits_def, Ideal.ofBits_def, Ideal.ofBits_def, Ideal.ofBits_def, ofBits_zero, zero_add, D _ z0 z1 z2,
    Finset.sum_congr rfl fun a _ => S a]
  have ei : (idx_main_v55 (idx_main_v56 (idx_main_v57 (idx_main_v61 i))) : S1x128.Idx) =
      ix2 (0 : Fin 1) (⟨(i 2).val % 128, Nat.mod_lt _ (by decide)⟩ : Fin 128) := by
    refine funext fun a => Fin.ext ?_
    match a with
    | ⟨0, _⟩ => rfl
    | ⟨1, _⟩ =>
      show (((i 0).val * 2048 + (i 1).val) * 512 + (i 2).val) % 128 % 128 = (i 2).val % 128
      omega
  have e3 : (idx_main_v61 i 3).val = (i 2).val % 128 := z3
  rw [ei, e3]
  rfl

/-- Lambda, from the four rows. -/
theorem lam_apply (i : S_.Idx) :
    val_main_v14 (F := Ideal) x3 x4 x5 x6 i =
      Ideal.exp (∑ x : Fin 64, x3 (ix2 (0 : Fin 1) x) * x4 (ix2 (0 : Fin 1) x)) -
        Ideal.exp (∑ x : Fin 64, x5 (ix2 (0 : Fin 1) x) * x6 (ix2 (0 : Fin 1) x)) + Ideal.ofBits FTy.f32 0x3E4CCCCD#32 := by
  rw [val_main_v14_apply, val_main_v13_apply, val_main_v7_apply, val_main_v12_apply, val_main_v6_apply, val_main_v11_apply,
    val_main_cst_apply, val_main_cst_0_apply, val_main_cst_1_apply, Ideal.ofBits_def, Ideal.ofBits_def, ofBits_zero, zero_add, zero_add]
  have S1 : (∑ j : S64.Idx, val_main_v5 (F := Ideal) x3 x4 j) = ∑ x : Fin 64, x3 (ix2 (0 : Fin 1) x) * x4 (ix2 (0 : Fin 1) x) := by
    refine (sum_idx1 (n0 := 64) (fun j => val_main_v5 (F := Ideal) x3 x4 j)).trans (Finset.sum_congr rfl fun a _ => ?_)
    rw [val_main_v5_apply, val_main_v3_apply, val_main_v4_apply, show idx_main_v3 (ix1 a) = ix2 (0 : Fin 1) a from funext fun b => Fin.ext (by
      match b with
      | ⟨0, _⟩ => rfl
      | ⟨1, _⟩ => exact Nat.mod_eq_of_lt a.isLt), show idx_main_v4 (ix1 a) = ix2 (0 : Fin 1) a from funext fun b => Fin.ext (by
      match b with
      | ⟨0, _⟩ => rfl
      | ⟨1, _⟩ => exact Nat.mod_eq_of_lt a.isLt)]
    rfl
  have S2 : (∑ j : S64.Idx, val_main_v10 (F := Ideal) x5 x6 j) = ∑ x : Fin 64, x5 (ix2 (0 : Fin 1) x) * x6 (ix2 (0 : Fin 1) x) := by
    refine (sum_idx1 (n0 := 64) (fun j => val_main_v10 (F := Ideal) x5 x6 j)).trans (Finset.sum_congr rfl fun a _ => ?_)
    rw [val_main_v10_apply, val_main_v8_apply, val_main_v9_apply, show idx_main_v8 (ix1 a) = ix2 (0 : Fin 1) a from funext fun b => Fin.ext (by
      match b with
      | ⟨0, _⟩ => rfl
      | ⟨1, _⟩ => exact Nat.mod_eq_of_lt a.isLt), show idx_main_v9 (ix1 a) = ix2 (0 : Fin 1) a from funext fun b => Fin.ext (by
      match b with
      | ⟨0, _⟩ => rfl
      | ⟨1, _⟩ => exact Nat.mod_eq_of_lt a.isLt)]
    rfl
  rw [S1, S2]
  rfl

end Ref

end Cert.ReferenceIdeal.Attn

end
-- ==== Proof.AttnValue.lean ====
/- The array the attention kernel leaves, over the extended reals, and that it is the reference's (hand-written). -/
module

public import proofs.«01_k».proof.Proof.AttnPoint
public import proofs.«01_k».proof.Proof.AttnIdeal
public import proofs.«01_k».proof.Proof.AttnRef
public import Idealize.ShloMosaic.Lib.Claim
public import Idealize.ShloMosaic.Lib.Pipeline.ValueKit

@[expose] public section

set_option maxRecDepth 16384
set_option maxHeartbeats 4000000

noncomputable section

namespace Cert.KernelIdeal.Attn

open Cert.KernelIdeal Cert.KernelIdeal.Gen Cert.AttnMath
open Idealize.ShloMosaic Idealize.ShloMosaic.TcCoe

/-- A number whose absolute value is below infinity is a real number. -/
theorem real_of_finite (x : Ideal .f32) (h : FloatOps.cmpf .olt (FloatOps.absf x) (FloatOps.ofBits (F := Ideal) .f32 0x7F800000#32) = 1#1) :
    x = ((x.toReal : ℝ) : EReal) := by
  rw [Ideal.absf_def, Ideal.ofBits_def, ofBits_top, Ideal.cmpf_def] at h
  have hlt : max x (-x) < (⊤ : EReal) := by
    by_contra hn
    simp [Ideal.cmp, hn] at h
  have h1 : x ≠ (⊤ : EReal) := fun e => by simp [e] at hlt
  have h2 : x ≠ (⊥ : EReal) := fun e => by simp [e] at hlt
  exact (EReal.coe_toReal h1 h2).symm

/-- Lambda of finite rows is a real number. -/
theorem lam_real (x5 x6 x7 x8 : S1x64.Idx → Ideal .f32) (h5 : ∀ i, x5 i = (((x5 i).toReal : ℝ) : EReal)) (h6 : ∀ i, x6 i = (((x6 i).toReal : ℝ) : EReal))
    (h7 : ∀ i, x7 i = (((x7 i).toReal : ℝ) : EReal)) (h8 : ∀ i, x8 i = (((x8 i).toReal : ℝ) : EReal)) :
    ∃ lr : ℝ, Ideal.exp (∑ x : Fin 64, x5 (ix2 (0 : Fin 1) x) * x6 (ix2 (0 : Fin 1) x)) -
        Ideal.exp (∑ x : Fin 64, x7 (ix2 (0 : Fin 1) x) * x8 (ix2 (0 : Fin 1) x)) + Ideal.ofBits FTy.f32 0x3E4CCCCD#32 = (lr : EReal) := by
  obtain ⟨r, hr⟩ := ofBits_fifth
  have key (a b : S1x64.Idx → Ideal .f32) (ha : ∀ i, a i = (((a i).toReal : ℝ) : EReal)) (hb : ∀ i, b i = (((b i).toReal : ℝ) : EReal)) :
      ∃ s : ℝ, Ideal.exp (∑ x : Fin 64, a (ix2 (0 : Fin 1) x) * b (ix2 (0 : Fin 1) x)) = (s : EReal) := by
    refine ⟨Real.exp (∑ x : Fin 64, (a (ix2 (0 : Fin 1) x)).toReal * (b (ix2 (0 : Fin 1) x)).toReal), ?_⟩
    rw [← Ideal.exp_coe, ← coe_sum]
    refine congrArg Ideal.exp (Finset.sum_congr rfl fun x _ => ?_)
    rw [EReal.coe_mul, ← ha, ← hb]
  obtain ⟨s1, e1⟩ := key x5 x6 h5 h6
  obtain ⟨s2, e2⟩ := key x7 x8 h7 h8
  exact ⟨s1 - s2 + r, by rw [e1, e2, hr, ← EReal.coe_sub, ← EReal.coe_add]⟩

section Blocks

variable (m : (ℓ : Loc nD τ sig) → Buf (Elt Ideal) ℓ) (c : Dev nD) (t : Fin cfg0.N)

/-- Which blocks a grid point names. -/
theorem idx_all : ∀ t : Fin cfg0.N,
    win0_0.index t = ![(grid0.coords t 0).val, (grid0.coords t 1).val, 0] ∧ win0_1.index t = ![(grid0.coords t 0).val, 0, 0] ∧
    win0_2.index t = ![(grid0.coords t 0).val, 0, 0] ∧ win0_3.index t = ![0, 0] ∧ win0_4.index t = ![0, 0] ∧ win0_5.index t = ![0, 0] ∧
    win0_6.index t = ![0, 0] ∧ win0_7.index t = ![0, 0] ∧ win0_8.index t = ![(grid0.coords t 0).val, (grid0.coords t 1).val, 0] := by
  decide +kernel

/-- The queries' block, read from the queries. -/
theorem iblk_0 (y : S1x512x512.Idx) :
    (iblk m c 0 t : S1x512x512.Idx → Ideal .f32) y = m ((c : Thread nD τ).loc main_arg0) (((cfg0.win 0).blk t).view.emb y) := by
  unfold iblk
  entry_read
  rfl

/-- The keys' block, read from the keys. -/
theorem iblk_1 (y : S1x2048x512.Idx) :
    (iblk m c 1 t : S1x2048x512.Idx → Ideal .bf16) y = m ((c : Thread nD τ).loc main_arg1) (((cfg0.win 1).blk t).view.emb y) := by
  unfold iblk
  entry_read
  rfl

/-- The values' block, read from the values. -/
theorem iblk_2 (y : S1x2048x512.Idx) :
    (iblk m c 2 t : S1x2048x512.Idx → Ideal .bf16) y = m ((c : Thread nD τ).loc main_arg2) (((cfg0.win 2).blk t).view.emb y) := by
  unfold iblk
  entry_read
  rfl

/-- Window 3 holds the row that argument 3 is. -/
theorem iblk_3 : (iblk m c 3 t : S1x64.Idx → Ideal .f32) = m ((c : Thread nD τ).loc main_arg3) := by
  funext y
  unfold iblk
  entry_read
  refine (congrFun (shapeCast_shapeCast (m ((c : Thread nD τ).loc main_arg3) : S1x64.Idx → Ideal .f32) shapeCasts_S1x64_S64 shapeCasts_S64_S1x64) (((cfg0.win 3).blk t).view.emb y)).trans ?_
  refine congrArg _ (funext fun a => Fin.ext ?_)
  match a with
  | ⟨0, _⟩ =>
    blk_simp [idx_all t]
  | ⟨1, _⟩ =>
    blk_simp [idx_all t]

/-- Window 4 holds the row that argument 4 is. -/
theorem iblk_4 : (iblk m c 4 t : S1x64.Idx → Ideal .f32) = m ((c : Thread nD τ).loc main_arg4) := by
  funext y
  unfold iblk
  entry_read
  refine (congrFun (shapeCast_shapeCast (m ((c : Thread nD τ).loc main_arg4) : S1x64.Idx → Ideal .f32) shapeCasts_S1x64_S64 shapeCasts_S64_S1x64) (((cfg0.win 4).blk t).view.emb y)).trans ?_
  refine congrArg _ (funext fun a => Fin.ext ?_)
  match a with
  | ⟨0, _⟩ =>
    blk_simp [idx_all t]
  | ⟨1, _⟩ =>
    blk_simp [idx_all t]

/-- Window 5 holds the row that argument 5 is. -/
theorem iblk_5 : (iblk m c 5 t : S1x64.Idx → Ideal .f32) = m ((c : Thread nD τ).loc main_arg5) := by
  funext y
  unfold iblk
  entry_read
  refine (congrFun (shapeCast_shapeCast (m ((c : Thread nD τ).loc main_arg5) : S1x64.Idx → Ideal .f32) shapeCasts_S1x64_S64 shapeCasts_S64_S1x64) (((cfg0.win 5).blk t).view.emb y)).trans ?_
  refine congrArg _ (funext fun a => Fin.ext ?_)
  match a with
  | ⟨0, _⟩ =>
    blk_simp [idx_all t]
  | ⟨1, _⟩ =>
    blk_simp [idx_all t]

/-- Window 6 holds the row that argument 6 is. -/
theorem iblk_6 : (iblk m c 6 t : S1x64.Idx → Ideal .f32) = m ((c : Thread nD τ).loc main_arg6) := by
  funext y
  unfold iblk
  entry_read
  refine (congrFun (shapeCast_shapeCast (m ((c : Thread nD τ).loc main_arg6) : S1x64.Idx → Ideal .f32) shapeCasts_S1x64_S64 shapeCasts_S64_S1x64) (((cfg0.win 6).blk t).view.emb y)).trans ?_
  refine congrArg _ (funext fun a => Fin.ext ?_)
  match a with
  | ⟨0, _⟩ =>
    blk_simp [idx_all t]
  | ⟨1, _⟩ =>
    blk_simp [idx_all t]

/-- Window 7 holds the row that argument 7 is. -/
theorem iblk_7 : (iblk m c 7 t : S1x128.Idx → Ideal .f32) = m ((c : Thread nD τ).loc main_arg7) := by
  funext y
  unfold iblk
  entry_read
  refine (congrFun (shapeCast_shapeCast (m ((c : Thread nD τ).loc main_arg7) : S1x128.Idx → Ideal .f32) shapeCasts_S1x128_S128 shapeCasts_S128_S1x128) (((cfg0.win 7).blk t).view.emb y)).trans ?_
  refine congrArg _ (funext fun a => Fin.ext ?_)
  match a with
  | ⟨0, _⟩ =>
    blk_simp [idx_all t]
  | ⟨1, _⟩ =>
    blk_simp [idx_all t]

/-- Where the queries' block lies. -/
theorem emb_0 (y : S1x512x512.Idx) : (((cfg0.win 0).blk t).view.emb y 0).val = (grid0.coords t 0).val ∧
    (((cfg0.win 0).blk t).view.emb y 1).val = 512 * (grid0.coords t 1).val + (y 1).val ∧ (((cfg0.win 0).blk t).view.emb y 2).val = (y 2).val := by
  have h0 : (y 0).val < 1 := (y 0).isLt
  refine ⟨?_, ?_, ?_⟩ <;> blk_simp [idx_all t] <;> omega

/-- Where the keys' block lies. -/
theorem emb_1 (y : S1x2048x512.Idx) : (((cfg0.win 1).blk t).view.emb y 0).val = (grid0.coords t 0).val ∧
    (((cfg0.win 1).blk t).view.emb y 1).val = (y 1).val ∧ (((cfg0.win 1).blk t).view.emb y 2).val = (y 2).val := by
  have h0 : (y 0).val < 1 := (y 0).isLt
  refine ⟨?_, ?_, ?_⟩ <;> blk_simp [idx_all t] <;> omega

/-- Where the values' block lies. -/
theorem emb_2 (y : S1x2048x512.Idx) : (((cfg0.win 2).blk t).view.emb y 0).val = (grid0.coords t 0).val ∧
    (((cfg0.win 2).blk t).view.emb y 1).val = (y 1).val ∧ (((cfg0.win 2).blk t).view.emb y 2).val = (y 2).val := by
  have h0 : (y 0).val < 1 := (y 0).isLt
  refine ⟨?_, ?_, ?_⟩ <;> blk_simp [idx_all t] <;> omega

/-- Where the result's block lies. -/
theorem emb_8 (y : S1x512x512.Idx) : (((cfg0.win 8).blk t).view.emb y 0).val = (grid0.coords t 0).val ∧
    (((cfg0.win 8).blk t).view.emb y 1).val = 512 * (grid0.coords t 1).val + (y 1).val ∧ (((cfg0.win 8).blk t).view.emb y 2).val = (y 2).val := by
  have h0 : (y 0).val < 1 := (y 0).isLt
  refine ⟨?_, ?_, ?_⟩ <;> blk_simp [idx_all t] <;> omega

/-- The block that a grid point writes, from the launch's memory. -/
def outAt (c : Dev nD) (t : Fin cfg0.N) : S1x512x512.Idx → Ideal .bf16 :=
  outB (F := Ideal) (grid0.coords t) (iblk m c 0 t) (iblk m c 1 t) (iblk m c 2 t) (iblk m c 3 t) (iblk m c 4 t) (iblk m c 5 t) (iblk m c 6 t) (iblk m c 7 t)

/-- The body leaves that block. -/
theorem leaves_out (c : Dev nD) (t : Fin cfg0.N) : LeavesAt m c t (fun d => d = outAt m c t) := fun f10 f11 f12 f13 f14 f15 =>
  body_read Variants.none c none _ _ _ _ _ _ _ _ _ _ _ _ _ _ _ _ _ _ _ _ _ _ _ _ _ _ _ _ _ _ _ _ _ _ _ _ _ f10 f11 f12 f13 f14 f15

variable (q k v : ℕ → ℕ → ℕ → ℝ)
variable (H0 : ∀ i : S32x2048x512.Idx, m ((c : Thread nD τ).loc main_arg0) i = ((q (i 0).val (i 1).val (i 2).val : ℝ) : EReal))
variable (H1 : ∀ i : S32x2048x512.Idx, m ((c : Thread nD τ).loc main_arg1) i = ((k (i 0).val (i 1).val (i 2).val : ℝ) : EReal))
variable (H2 : ∀ i : S32x2048x512.Idx, m ((c : Thread nD τ).loc main_arg2) i = ((v (i 0).val (i 1).val (i 2).val : ℝ) : EReal))
variable (lr : ℝ)
variable (hl : k0_pay77 (F := Ideal) (m ((c : Thread nD τ).loc main_arg3)) (m ((c : Thread nD τ).loc main_arg4)) (m ((c : Thread nD τ).loc main_arg5)) (m ((c : Thread nD τ).loc main_arg6)) (ix2 (0 : Fin 1) (0 : Fin 1)) = (lr : EReal))

include H0 H1 H2 hl in
/-- At every place of its block, a grid point writes the reference's entry. -/
theorem outAt_eq (y : S1x512x512.Idx) :
    outAt m c t y = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      (((cfg0.win 8).blk t).view.emb y) := by
  have b2 : (y 2).val < 512 := (y 2).isLt
  have bn : (grid0.coords t 1).val < 4 := (grid0.coords t 1).isLt
  obtain ⟨g0, g1, g2⟩ := emb_8 t y
  have E0 (z : S1x512x512.Idx) : (iblk m c 0 t : S1x512x512.Idx → Ideal .f32) z = ((q (grid0.coords t 0).val (512 * (grid0.coords t 1).val + (z 1).val) (z 2).val : ℝ) : EReal) := by
    obtain ⟨a0, a1, a2⟩ := emb_0 t z
    exact (iblk_0 m c t z).trans ((H0 _).trans (by rw [a0, a1, a2]))
  have E1 (z : S1x2048x512.Idx) : (iblk m c 1 t : S1x2048x512.Idx → Ideal .bf16) z = ((k (grid0.coords t 0).val (z 1).val (z 2).val : ℝ) : EReal) := by
    obtain ⟨a0, a1, a2⟩ := emb_1 t z
    exact (iblk_1 m c t z).trans ((H1 _).trans (by rw [a0, a1, a2]))
  have E2 (z : S1x2048x512.Idx) : (iblk m c 2 t : S1x2048x512.Idx → Ideal .bf16) z = ((v (grid0.coords t 0).val (z 1).val (z 2).val : ℝ) : EReal) := by
    obtain ⟨a0, a1, a2⟩ := emb_2 t z
    exact (iblk_2 m c t z).trans ((H2 _).trans (by rw [a0, a1, a2]))
  have hlam := lam_apply (m ((c : Thread nD τ).loc main_arg3)) (m ((c : Thread nD τ).loc main_arg4)) (m ((c : Thread nD τ).loc main_arg5)) (m ((c : Thread nD τ).loc main_arg6))
  have hD (d : Fin 128) := dif_eq (iblk m c 0 t) (iblk m c 1 t) (iblk m c 2 t) (q (grid0.coords t 0).val) (k (grid0.coords t 0).val) (v (grid0.coords t 0).val)
    (grid0.coords t 1).val (128 * ((y 2).val / 128)) bn (by omega) E0 E1 E2 _ lr hl d (y 1 : Fin 512)
  refine Eq.trans ?_ (Cert.ReferenceIdeal.Attn.out_apply _ _ _ _ _ _ _ _ q k v lr H0 H1 H2 (fun i => (Cert.ReferenceIdeal.Attn.lam_apply _ _ _ _ i).trans (hlam.symm.trans hl)) (((cfg0.win 8).blk t).view.emb y)).symm
  unfold outAt outB
  rw [iblk_3, iblk_4, iblk_5, iblk_6, iblk_7]
  refine (hout_apply _ _ _ _ _).trans ?_
  rw [hD, Finset.sum_congr rfl fun x _ => by rw [hD x]]
  simp only [g0, g1, g2]
  rfl

include H0 H1 H2 hl in
/-- The array the kernel leaves is the reference's. -/
theorem out_array :
    (datV m (outAt m) 0 c).arrAt 8 cfg0.N = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (datV m (outAt m) 0 c).arrAt_eq_of_covers 8 _ (by decide +kernel) fun t hf y => ?_
  blk_simp
  rw [datV_after8]
  exact outAt_eq m c t q k v H0 H1 H2 lr hl y

end Blocks

end Cert.KernelIdeal.Attn

end
-- ==== Proof.OutRow.lean ====
/-
  One row of the layer's second half over the extended reals: the two projected mixers gated and merged, the output
  projection, the residual, the norm, and the gated feed-forward network.
-/
module

public import Idealize.ShloMosaic.Lib.Pointwise

@[expose] public section

noncomputable section

namespace Cert.OutRow

open Idealize.ShloMosaic

/-- The merged mixers at one column: each gate times its projection. -/
def mg (ha ob : Fin 512 → EReal) (ga gb : Fin 1024 → EReal) (wa wb : Fin 512 → Fin 1024 → EReal) (k : Fin 1024) : EReal :=
  ga k * (∑ c : Fin 512, ha c * wa c k) + gb k * (∑ c : Fin 512, ob c * wb c k)

/-- The row after the mixers' residual. -/
def rx (x gt : Fin 1024 → EReal) (m : Fin 1024 → EReal) (wo : Fin 1024 → Fin 1024 → EReal) (d : Fin 1024) : EReal :=
  x d + gt d * ∑ k : Fin 1024, m k * wo k d

/-- The normed and modulated row. -/
def un (r g scf shf : Fin 1024 → EReal) (d : Fin 1024) : EReal :=
  r d * Ideal.rsqrt (Ideal.div (∑ k : Fin 1024, r k * r k) (Ideal.ofBits .f32 0x44800000#32) + Ideal.ofBits .f32 0x358637BD#32) * g d * (1 + scf d) + shf d

/-- One hidden unit: the gate's sigmoid-weighted value times the up projection. -/
def hid (u : Fin 1024 → EReal) (wg wu : Fin 1024 → EReal) : EReal :=
  (∑ d : Fin 1024, u d * wg d) * Ideal.logistic (∑ d : Fin 1024, u d * wg d) * ∑ d : Fin 1024, u d * wu d

/-- The row after the feed-forward residual. -/
def out (r u gtf : Fin 1024 → EReal) (wg wu : Fin 2816 → Fin 1024 → EReal) (wd : Fin 2816 → Fin 1024 → EReal) (d : Fin 1024) : EReal :=
  r d + gtf d * ∑ f : Fin 2816, hid u (wg f) (wu f) * wd f d

/-- A sum over the hidden units is the sum over its three chunks. -/
theorem sum_chunks (f : Fin 2816 → EReal) :
    (∑ a : Fin 1024, f ⟨a.val, by omega⟩ + ∑ a : Fin 1024, f ⟨1024 + a.val, by omega⟩) + ∑ a : Fin 768, f ⟨2048 + a.val, by omega⟩ = ∑ a, f a := by
  rw [Fin.sum_univ_add (a := 2048) (b := 768) (f := f),
    Fin.sum_univ_add (a := 1024) (b := 1024) (f := fun i : Fin 2048 => f (Fin.castAdd 768 i))]
  rfl

end Cert.OutRow

end
-- ==== Proof.OutRead.lean ====
/- The steps of the output and feed-forward kernel over the extended reals, entry by entry (hand-written). -/
module

public import proofs.«01_k».proof.Proof.Gen.Kernel2Ideal.Frame
public import proofs.«01_k».proof.Proof.OutRow
public import Idealize.ShloMosaic.Lib.Pointwise

@[expose] public section

set_option maxRecDepth 16384
set_option maxHeartbeats 4000000

noncomputable section

namespace Cert.Kernel2Ideal.Out

open Cert.Kernel2Ideal Cert.Kernel2Ideal.Gen Cert.OutRow
open Idealize.ShloMosaic Idealize.ShloMosaic.TcCoe

/-- The first half's row after the mixers' residual. -/
theorem pay2_apply (v0 : FVec Ideal S1x256x1024 .f32) (v1 : FVec Ideal S256x512 .bf16) (v3 : FVec Ideal S512x1024 .bf16) (v6 : FVec Ideal S256x512 .bf16)
    (v8 : FVec Ideal S512x1024 .bf16) (v11 v14 : FVec Ideal S256x1024 .bf16) (v19 : FVec Ideal S1024x1024 .bf16) (v22 : FVec Ideal S1x1x1x1024 .f32)
    (r : Fin 256) (d : Fin 1024) :
    k0_pay2 (F := Ideal) v0 v1 v3 v6 v8 v11 v14 v19 v22 (ix3 (0 : Fin 1) r d) =
      rx (fun d => v0 (ix3 (0 : Fin 1) r d)) (fun d => v22 (ix4 (0 : Fin 1) (0 : Fin 1) (0 : Fin 1) d))
        (mg (fun c => v1 (ix2 r c)) (fun c => v6 (ix2 r c)) (fun k => v11 (ix2 r k)) (fun k => v14 (ix2 r k)) (fun c k => v3 (ix2 c k)) (fun c k => v8 (ix2 c k)))
        (fun k d => v19 (ix2 k d)) d := by
  pointwise [k0_pay2]
  rfl

/-- The second half's row after the mixers' residual. -/
theorem pay8_apply (v0 : FVec Ideal S1x256x1024 .f32) (v1 : FVec Ideal S256x512 .bf16) (v3 : FVec Ideal S512x1024 .bf16) (v6 : FVec Ideal S256x512 .bf16)
    (v8 : FVec Ideal S512x1024 .bf16) (v11 v14 : FVec Ideal S256x1024 .bf16) (v19 : FVec Ideal S1024x1024 .bf16) (v22 : FVec Ideal S1x1x1x1024 .f32)
    (r : Fin 256) (d : Fin 1024) :
    k0_pay8 (F := Ideal) v0 (k0_pay6 (F := Ideal) v1 v3) (k0_pay7 (F := Ideal) v6 v8) v11 v14 v19 v22 (ix3 (0 : Fin 1) r d) =
      rx (fun d => v0 (ix3 (0 : Fin 1) r d)) (fun d => v22 (ix4 (0 : Fin 1) (0 : Fin 1) (0 : Fin 1) d))
        (mg (fun c => v1 (ix2 r c)) (fun c => v6 (ix2 r c)) (fun k => v11 (ix2 r k)) (fun k => v14 (ix2 r k)) (fun c k => v3 (ix2 c k)) (fun c k => v8 (ix2 c k)))
        (fun k d => v19 (ix2 k d)) d := by
  pointwise [k0_pay8, k0_pay6, k0_pay7]
  rfl

/-- The first half's normed row. -/
theorem pay5_apply (v0 : FVec Ideal S1x256x1024 .f32) (v1 : FVec Ideal S256x512 .bf16) (v3 : FVec Ideal S512x1024 .bf16) (v6 : FVec Ideal S256x512 .bf16)
    (v8 : FVec Ideal S512x1024 .bf16) (v11 v14 : FVec Ideal S256x1024 .bf16) (v19 : FVec Ideal S1024x1024 .bf16) (v22 : FVec Ideal S1x1x1x1024 .f32)
    (v38 : FVec Ideal S1x1024 .f32) (v43 v49 : FVec Ideal S1x1x1x1024 .f32) (r : Fin 256) (d : Fin 1024) :
    k0_pay5 (F := Ideal) (k0_pay2 (F := Ideal) v0 v1 v3 v6 v8 v11 v14 v19 v22) (k0_pay3 (F := Ideal) v0 v1 v3 v6 v8 v11 v14 v19 v22) (k0_pay4 (F := Ideal)) v38 v43 v49 (ix2 r d) =
      un (fun d => k0_pay2 (F := Ideal) v0 v1 v3 v6 v8 v11 v14 v19 v22 (ix3 (0 : Fin 1) r d)) (fun d => v38 (ix2 (0 : Fin 1) d))
        (fun d => v43 (ix4 (0 : Fin 1) (0 : Fin 1) (0 : Fin 1) d)) (fun d => v49 (ix4 (0 : Fin 1) (0 : Fin 1) (0 : Fin 1) d)) d := by
  unfold k0_pay3
  generalize k0_pay2 (F := Ideal) v0 v1 v3 v6 v8 v11 v14 v19 v22 = R
  pointwise [k0_pay5, k0_pay4]
  rfl

/-- The second half's normed row. -/
theorem pay10_apply (v55 : FVec Ideal S1x256x1024 .f32) (v60 v65 : FVec Ideal S256x1024 .f32) (v66 v69 : FVec Ideal S256x1024 .bf16)
    (v74 : FVec Ideal S1024x1024 .bf16) (v77 : FVec Ideal S1x1x1x1024 .f32)
    (v38 : FVec Ideal S1x1024 .f32) (v43 v49 : FVec Ideal S1x1x1x1024 .f32) (r : Fin 256) (d : Fin 1024) :
    k0_pay10 (F := Ideal) (k0_pay9 (F := Ideal) v55 v60 v65 v66 v69 v74 v77 v38 v43) v49 (ix2 r d) =
      un (fun d => k0_pay8 (F := Ideal) v55 v60 v65 v66 v69 v74 v77 (ix3 (0 : Fin 1) r d)) (fun d => v38 (ix2 (0 : Fin 1) d))
        (fun d => v43 (ix4 (0 : Fin 1) (0 : Fin 1) (0 : Fin 1) d)) (fun d => v49 (ix4 (0 : Fin 1) (0 : Fin 1) (0 : Fin 1) d)) d := by
  unfold k0_pay9
  generalize k0_pay8 (F := Ideal) v55 v60 v65 v66 v69 v74 v77 = R
  pointwise [k0_pay10]
  rfl

/-- The first half's row after the feed-forward residual, in its three chunks. -/
theorem pay13_apply (v27 : FVec Ideal S1x256x1024 .f32) (v54 : FVec Ideal S256x1024 .bf16) (a1 b1 c1 a2 b2 c2 : FVec Ideal S1024x1024 .bf16)
    (a3 b3 : FVec Ideal S1024x768 .bf16) (c3 : FVec Ideal S768x1024 .bf16) (v151 : FVec Ideal S1x1x1x1024 .f32) (r : Fin 256) (d : Fin 1024) :
    k0_pay13 (F := Ideal) v27 v54 (k0_pay11 (F := Ideal) v54 a1 b1 c1 a2 b2 c2) (k0_pay12 (F := Ideal) v54 a3) b3 c3 v151 (ix3 (0 : Fin 1) r d) =
      v27 (ix3 (0 : Fin 1) r d) + v151 (ix4 (0 : Fin 1) (0 : Fin 1) (0 : Fin 1) d) *
        ((∑ f : Fin 1024, hid (fun k => v54 (ix2 r k)) (fun k => a1 (ix2 k f)) (fun k => b1 (ix2 k f)) * c1 (ix2 f d) +
          ∑ f : Fin 1024, hid (fun k => v54 (ix2 r k)) (fun k => a2 (ix2 k f)) (fun k => b2 (ix2 k f)) * c2 (ix2 f d)) +
          ∑ f : Fin 768, hid (fun k => v54 (ix2 r k)) (fun k => a3 (ix2 k f)) (fun k => b3 (ix2 k f)) * c3 (ix2 f d)) := by
  pointwise [k0_pay13, k0_pay11, k0_pay12]
  rfl

/-- The second half's row after the feed-forward residual, in its three chunks. -/
theorem pay1_apply (v27 : FVec Ideal S1x256x1024 .f32) (v54 : FVec Ideal S256x1024 .bf16) (a1 b1 c1 a2 b2 c2 : FVec Ideal S1024x1024 .bf16)
    (a3 b3 : FVec Ideal S1024x768 .bf16) (c3 : FVec Ideal S768x1024 .bf16) (v151 : FVec Ideal S1x1x1x1024 .f32) (r : Fin 256) (d : Fin 1024) :
    k0_pay1 (F := Ideal) v27 v54 (k0_pay14 (F := Ideal) v54 a1 b1 c1) (k0_pay15 (F := Ideal) v54 a2) b2 c2 a3 b3 c3 v151 (ix3 (0 : Fin 1) r d) =
      v27 (ix3 (0 : Fin 1) r d) + v151 (ix4 (0 : Fin 1) (0 : Fin 1) (0 : Fin 1) d) *
        ((∑ f : Fin 1024, hid (fun k => v54 (ix2 r k)) (fun k => a1 (ix2 k f)) (fun k => b1 (ix2 k f)) * c1 (ix2 f d) +
          ∑ f : Fin 1024, hid (fun k => v54 (ix2 r k)) (fun k => a2 (ix2 k f)) (fun k => b2 (ix2 k f)) * c2 (ix2 f d)) +
          ∑ f : Fin 768, hid (fun k => v54 (ix2 r k)) (fun k => a3 (ix2 k f)) (fun k => b3 (ix2 k f)) * c3 (ix2 f d)) := by
  pointwise [k0_pay1, k0_pay14, k0_pay15]
  rfl

end Cert.Kernel2Ideal.Out

end
-- ==== Proof.OutRef.lean ====
/- The reference's output projection and feed-forward network over the extended reals, entry by entry (hand-written). -/
module

public import proofs.«01_k».proof.Proof.Gen.Reference2Ideal.Read
public import proofs.«01_k».proof.Proof.OutRow
public import Idealize.ShloMosaic.Lib.Pointwise

@[expose] public section

set_option maxRecDepth 16384
set_option maxHeartbeats 4000000

noncomputable section

namespace Cert.Reference2Ideal.Out

open Cert.Reference2Ideal Cert.Reference2Ideal.Gen Cert.Reference2Ideal.Read Cert.OutRow
open Idealize.ShloMosaic Idealize.ShloMosaic.TcCoe

variable (x0 : FVec Ideal S32x2048x1024 .f32) (x1 : FVec Ideal S32x6x1x1024 .f32) (x2 x3 : FVec Ideal S32x2048x512 .bf16)
variable (x4 x5 : FVec Ideal S65536x1024 .bf16) (x6 x7 : FVec Ideal S1x512x1024 .f32) (x8 : FVec Ideal S1x1024x1024 .f32)
variable (x9 : FVec Ideal S1x1024 .f32) (x10 : FVec Ideal S1x1024x5632 .f32) (x11 : FVec Ideal S1x2816x1024 .f32)

/-- A token's row of the gates. -/
def tok (b : Fin 32) (l : Fin 2048) : Fin 65536 := ⟨b.val * 2048 + l.val, by omega⟩

/-- The reference's merged mixers. -/
theorem v20_apply (b : Fin 32) (l : Fin 2048) (k : Fin 1024) :
    val_main_v20 (F := Ideal) x2 x3 x4 x5 x6 x7 (ix3 b l k) =
      mg (fun c => x2 (ix3 b l c)) (fun c => x3 (ix3 b l c)) (fun k => x4 (ix2 (tok b l) k)) (fun k => x5 (ix2 (tok b l) k))
        (fun c k => x6 (ix3 (0 : Fin 1) c k)) (fun c k => x7 (ix3 (0 : Fin 1) c k)) k := by
  pointwise [val_main_v20, val_main_v19, val_main_v18, val_main_v17, val_main_v16, val_main_v15, val_main_v14, val_main_v13, val_main_v12,
    val_main_v11, val_main_v10, val_main_v9, val_main_v8]
  rfl

/-- The reference's row after the mixers' residual. -/
theorem v25_apply (b : Fin 32) (l : Fin 2048) (d : Fin 1024) :
    val_main_v25 (F := Ideal) x0 x1 x2 x3 x4 x5 x6 x7 x8 (ix3 b l d) =
      rx (fun d => x0 (ix3 b l d)) (fun d => x1 (ix4 b (2 : Fin 6) (0 : Fin 1) d))
        (fun k => val_main_v20 (F := Ideal) x2 x3 x4 x5 x6 x7 (ix3 b l k)) (fun k d => x8 (ix3 (0 : Fin 1) k d)) d := by
  unfold val_main_v25 val_main_v24 val_main_v22
  generalize val_main_v20 (F := Ideal) x2 x3 x4 x5 x6 x7 = M
  pointwise [val_main_v23, val_main_v21, val_main_v1, val_main_v0]
  rfl

/-- The reference's normed row. -/
theorem v45_apply (b : Fin 32) (l : Fin 2048) (d : Fin 1024) :
    val_main_v45 (F := Ideal) x0 x1 x2 x3 x4 x5 x6 x7 x8 x9 (ix3 b l d) =
      un (fun d => val_main_v25 (F := Ideal) x0 x1 x2 x3 x4 x5 x6 x7 x8 (ix3 b l d)) (fun d => x9 (ix2 (0 : Fin 1) d))
        (fun d => x1 (ix4 b (4 : Fin 6) (0 : Fin 1) d)) (fun d => x1 (ix4 b (3 : Fin 6) (0 : Fin 1) d)) d := by
  unfold val_main_v45 val_main_v43 val_main_v39 val_main_v36 val_main_v35 val_main_v34 val_main_v33 val_main_v31 val_main_v29 val_main_v28 val_main_v27
  generalize val_main_v25 (F := Ideal) x0 x1 x2 x3 x4 x5 x6 x7 x8 = R
  pointwise [val_main_v44, val_main_v42, val_main_v41, val_main_v40, val_main_v38, val_main_v37, val_main_v26, val_main_v32, val_main_v30,
    val_main_cst, val_main_cst_0, val_main_cst_1, val_main_cst_2, val_main_v5, val_main_v4, val_main_v3, val_main_v2]
  rfl

/-- The reference's result. -/
theorem v56_apply (b : Fin 32) (l : Fin 2048) (d : Fin 1024) :
    val_main_v56 (F := Ideal) x0 x1 x2 x3 x4 x5 x6 x7 x8 x9 x10 x11 (ix3 b l d) =
      out (fun d => val_main_v25 (F := Ideal) x0 x1 x2 x3 x4 x5 x6 x7 x8 (ix3 b l d))
        (fun d => val_main_v45 (F := Ideal) x0 x1 x2 x3 x4 x5 x6 x7 x8 x9 (ix3 b l d))
        (fun d => x1 (ix4 b (5 : Fin 6) (0 : Fin 1) d))
        (fun f k => x10 (ix3 (0 : Fin 1) k (⟨f.val, by omega⟩ : Fin 5632))) (fun f k => x10 (ix3 (0 : Fin 1) k (⟨2816 + f.val, by omega⟩ : Fin 5632)))
        (fun f d => x11 (ix3 (0 : Fin 1) f d)) d := by
  unfold val_main_v56 val_main_v55 val_main_v53 val_main_v51 val_main_v50 val_main_v49 val_main_call0_v5 val_main_call0_v3 val_main_call0_v1 val_main_call0_v0
    val_main_v48 val_main_v47
  generalize val_main_v25 (F := Ideal) x0 x1 x2 x3 x4 x5 x6 x7 x8 = R
  generalize val_main_v45 (F := Ideal) x0 x1 x2 x3 x4 x5 x6 x7 x8 x9 = U
  pointwise [val_main_call0_v2, val_main_call0_v4, val_main_call0_cst, val_main_call0_cst_0, val_main_v54, val_main_v52, val_main_v46, val_main_v7, val_main_v6]
  rfl

end Cert.Reference2Ideal.Out

end
-- ==== Proof.OutValue.lean ====
/- The array the output and feed-forward kernel leaves, over the extended reals, and that it is the reference's (hand-written). -/
module

public import proofs.«01_k».proof.Proof.OutRead
public import proofs.«01_k».proof.Proof.OutRef
public import proofs.«01_k».proof.Proof.Gen.Kernel2Ideal.Value
public import Idealize.ShloMosaic.Lib.Claim
public import Idealize.ShloMosaic.Lib.Pipeline.ValueKit

@[expose] public section

set_option maxRecDepth 16384
set_option maxHeartbeats 4000000

noncomputable section

namespace Cert.Kernel2Ideal.Out

open Cert.Kernel2Ideal Cert.Kernel2Ideal.Gen Cert.OutRow
open Idealize.ShloMosaic Idealize.ShloMosaic.TcCoe

section Rows

variable (x0 : FVec Ideal S1x512x1024 .f32) (x1 x2 x3 x4 : FVec Ideal S1x1x1x1024 .f32) (x5 x6 : FVec Ideal S512x512 .bf16) (x7 x8 x9 x10 : FVec Ideal S512x1024 .bf16) (x11 : FVec Ideal S1024x1024 .bf16) (x12 : FVec Ideal S1x1024 .f32) (x13 : FVec Ideal S1024x5632 .bf16) (x14 : FVec Ideal S2816x1024 .bf16)

/-- A row of the block after the mixers' residual. -/
def rowX (r : Fin 512) : Fin 1024 → EReal :=
  rx (fun d => x0 (ix3 (0 : Fin 1) r d)) (fun d => x1 (ix4 (0 : Fin 1) (0 : Fin 1) (0 : Fin 1) d))
    (mg (fun c => x5 (ix2 r c)) (fun c => x6 (ix2 r c)) (fun k => x7 (ix2 r k)) (fun k => x8 (ix2 r k)) (fun c k => x9 (ix2 c k)) (fun c k => x10 (ix2 c k)))
    (fun k d => x11 (ix2 k d))

/-- That row normed and modulated. -/
def rowU (r : Fin 512) : Fin 1024 → EReal :=
  un (rowX x0 x1 x5 x6 x7 x8 x9 x10 x11 r) (fun d => x12 (ix2 (0 : Fin 1) d)) (fun d => x3 (ix4 (0 : Fin 1) (0 : Fin 1) (0 : Fin 1) d))
    (fun d => x2 (ix4 (0 : Fin 1) (0 : Fin 1) (0 : Fin 1) d))

/-- The row of the result. -/
def rowO (r : Fin 512) : Fin 1024 → EReal :=
  out (rowX x0 x1 x5 x6 x7 x8 x9 x10 x11 r) (rowU x0 x1 x2 x3 x5 x6 x7 x8 x9 x10 x11 x12 r)
    (fun d => x4 (ix4 (0 : Fin 1) (0 : Fin 1) (0 : Fin 1) d))
    (fun f k => x13 (ix2 k (⟨f.val, by omega⟩ : Fin 5632))) (fun f k => x13 (ix2 k (⟨2816 + f.val, by omega⟩ : Fin 5632)))
    (fun f d => x14 (ix2 f d))

/-- The first half after the mixers' residual. -/
theorem lo_x (r : Fin 256) (d : Fin 1024) :
    k0_pay16 (F := Ideal) x0 x1 x2 x3 x4 x5 x6 x7 x8 x9 x10 x11 x12 x13 x14 (ix3 (0 : Fin 1) r d) = rowX x0 x1 x5 x6 x7 x8 x9 x10 x11 (⟨r.val, by omega⟩ : Fin 512) d := by
  unfold k0_pay16
  rw [pay2_apply]
  pointwise
  rfl

/-- The first half normed. -/
theorem lo_u (r : Fin 256) (d : Fin 1024) :
    k0_pay17 (F := Ideal) x0 x1 x2 x3 x4 x5 x6 x7 x8 x9 x10 x11 x12 x13 x14 (ix2 r d) = rowU x0 x1 x2 x3 x5 x6 x7 x8 x9 x10 x11 x12 (⟨r.val, by omega⟩ : Fin 512) d := by
  have h := lo_x x0 x1 x2 x3 x4 x5 x6 x7 x8 x9 x10 x11 x12 x13 x14 r
  unfold k0_pay17
  unfold k0_pay16 at h ⊢
  rw [pay5_apply]
  simp only [h]
  pointwise
  rfl

/-- The first half of the result. -/
theorem lo_o (r : Fin 256) (d : Fin 1024) :
    k0_pay13 (F := Ideal) (k0_pay16 x0 x1 x2 x3 x4 x5 x6 x7 x8 x9 x10 x11 x12 x13 x14) (k0_pay17 x0 x1 x2 x3 x4 x5 x6 x7 x8 x9 x10 x11 x12 x13 x14) (k0_pay11 (k0_pay17 x0 x1 x2 x3 x4 x5 x6 x7 x8 x9 x10 x11 x12 x13 x14) (View.ld x13 r0_10) (View.ld x13 r0_11) (View.ld x14 r0_12) (View.ld x13 r0_13) (View.ld x13 r0_14) (View.ld x14 r0_15)) (k0_pay12 (k0_pay17 x0 x1 x2 x3 x4 x5 x6 x7 x8 x9 x10 x11 x12 x13 x14) (View.ld x13 r0_16)) (View.ld x13 r0_17) (View.ld x14 r0_18) (View.ld x4 r0_5) (ix3 (0 : Fin 1) r d) =
      rowO x0 x1 x2 x3 x4 x5 x6 x7 x8 x9 x10 x11 x12 x13 x14 (⟨r.val, by omega⟩ : Fin 512) d := by
  rw [pay13_apply, lo_x]
  simp only [lo_u]
  unfold rowO out
  rw [← sum_chunks]
  generalize rowX x0 x1 x5 x6 x7 x8 x9 x10 x11 _ = R
  generalize rowU x0 x1 x2 x3 x5 x6 x7 x8 x9 x10 x11 x12 _ = u
  refine congrArg₂ (· + ·) rfl (congrArg₂ (· * ·) ?_ (congrArg₂ (· + ·) (congrArg₂ (· + ·) (Finset.sum_congr rfl fun f _ => ?_) (Finset.sum_congr rfl fun f _ => ?_))
    (Finset.sum_congr rfl fun f _ => ?_)))
  · pointwise
    try rfl
  · refine congrArg₂ (· * ·) (congrArg₂ (hid u) (funext fun k => ?_) (funext fun k => ?_)) ?_ <;> pointwise <;> first | rfl | (refine congrArg x13 (congrArg (ix2 k) (Fin.ext ?_)); show _ + _ = _ + (_ + _); omega)
  · refine congrArg₂ (· * ·) (congrArg₂ (hid u) (funext fun k => ?_) (funext fun k => ?_)) ?_ <;> pointwise <;> first | rfl | (refine congrArg x13 (congrArg (ix2 k) (Fin.ext ?_)); show _ + _ = _ + (_ + _); omega)
  · refine congrArg₂ (· * ·) (congrArg₂ (hid u) (funext fun k => ?_) (funext fun k => ?_)) ?_ <;> pointwise <;> first | rfl | (refine congrArg x13 (congrArg (ix2 k) (Fin.ext ?_)); show _ + _ = _ + (_ + _); omega)

/-- The second half after the mixers' residual. -/
theorem hi_x (r : Fin 256) (d : Fin 1024) :
    k0_pay8 (F := Ideal) (View.ld x0 r0_7) (k0_pay18 x0 x1 x2 x3 x4 x5 x6 x7 x8 x9 x10 x11 x12 x13 x14) (k0_pay19 x0 x1 x2 x3 x4 x5 x6 x7 x8 x9 x10 x11 x12 x13 x14) (View.ld x7 r0_9) (View.ld x8 r0_9) (View.ld x11 r0_4) (View.ld x1 r0_5) (ix3 (0 : Fin 1) r d) =
      rowX x0 x1 x5 x6 x7 x8 x9 x10 x11 (⟨256 + r.val, by omega⟩ : Fin 512) d := by
  unfold k0_pay18 k0_pay19
  rw [pay8_apply]
  pointwise
  rfl

/-- The second half normed. -/
theorem hi_u (r : Fin 256) (d : Fin 1024) :
    k0_pay20 (F := Ideal) x0 x1 x2 x3 x4 x5 x6 x7 x8 x9 x10 x11 x12 x13 x14 (ix2 r d) = rowU x0 x1 x2 x3 x5 x6 x7 x8 x9 x10 x11 x12 (⟨256 + r.val, by omega⟩ : Fin 512) d := by
  unfold k0_pay20
  rw [pay10_apply]
  simp only [hi_x]
  pointwise
  rfl

/-- The second half of the result. -/
theorem hi_o (r : Fin 256) (d : Fin 1024) :
    k0_pay1 (F := Ideal) (k0_pay8 (View.ld x0 r0_7) (k0_pay18 x0 x1 x2 x3 x4 x5 x6 x7 x8 x9 x10 x11 x12 x13 x14) (k0_pay19 x0 x1 x2 x3 x4 x5 x6 x7 x8 x9 x10 x11 x12 x13 x14) (View.ld x7 r0_9) (View.ld x8 r0_9) (View.ld x11 r0_4) (View.ld x1 r0_5)) (k0_pay20 x0 x1 x2 x3 x4 x5 x6 x7 x8 x9 x10 x11 x12 x13 x14) (k0_pay14 (k0_pay20 x0 x1 x2 x3 x4 x5 x6 x7 x8 x9 x10 x11 x12 x13 x14) (View.ld x13 r0_10) (View.ld x13 r0_11) (View.ld x14 r0_12)) (k0_pay15 (k0_pay20 x0 x1 x2 x3 x4 x5 x6 x7 x8 x9 x10 x11 x12 x13 x14) (View.ld x13 r0_13)) (View.ld x13 r0_14) (View.ld x14 r0_15) (View.ld x13 r0_16) (View.ld x13 r0_17) (View.ld x14 r0_18) (View.ld x4 r0_5) (ix3 (0 : Fin 1) r d) =
      rowO x0 x1 x2 x3 x4 x5 x6 x7 x8 x9 x10 x11 x12 x13 x14 (⟨256 + r.val, by omega⟩ : Fin 512) d := by
  rw [pay1_apply, hi_x]
  simp only [hi_u]
  unfold rowO out
  rw [← sum_chunks]
  generalize rowX x0 x1 x5 x6 x7 x8 x9 x10 x11 _ = R
  generalize rowU x0 x1 x2 x3 x5 x6 x7 x8 x9 x10 x11 x12 _ = u
  refine congrArg₂ (· + ·) rfl (congrArg₂ (· * ·) ?_ (congrArg₂ (· + ·) (congrArg₂ (· + ·) (Finset.sum_congr rfl fun f _ => ?_) (Finset.sum_congr rfl fun f _ => ?_))
    (Finset.sum_congr rfl fun f _ => ?_)))
  · pointwise
    try rfl
  · refine congrArg₂ (· * ·) (congrArg₂ (hid u) (funext fun k => ?_) (funext fun k => ?_)) ?_ <;> pointwise <;> first | rfl | (refine congrArg x13 (congrArg (ix2 k) (Fin.ext ?_)); show _ + _ = _ + (_ + _); omega)
  · refine congrArg₂ (· * ·) (congrArg₂ (hid u) (funext fun k => ?_) (funext fun k => ?_)) ?_ <;> pointwise <;> first | rfl | (refine congrArg x13 (congrArg (ix2 k) (Fin.ext ?_)); show _ + _ = _ + (_ + _); omega)
  · refine congrArg₂ (· * ·) (congrArg₂ (hid u) (funext fun k => ?_) (funext fun k => ?_)) ?_ <;> pointwise <;> first | rfl | (refine congrArg x13 (congrArg (ix2 k) (Fin.ext ?_)); show _ + _ = _ + (_ + _); omega)

/-- An index of a half is its two free coordinates. -/
theorem half_idx (x : S1x256x1024.Idx) : x = ix3 (0 : Fin 1) (x 1 : Fin 256) (x 2 : Fin 1024) := by
  funext a
  match a with
  | ⟨0, _⟩ => exact Fin.ext (by have : (x 0).val < 1 := (x 0).isLt; show (x 0).val = 0; omega)
  | ⟨1, _⟩ => rfl
  | ⟨2, _⟩ => rfl

/-- The body leaves the result's rows. -/
theorem block_apply (y : S1x512x1024.Idx) :
    out0_15 (F := Ideal) x0 x1 x2 x3 x4 x5 x6 x7 x8 x9 x10 x11 x12 x13 x14 y = rowO x0 x1 x2 x3 x4 x5 x6 x7 x8 x9 x10 x11 x12 x13 x14 (y 1 : Fin 512) (y 2 : Fin 1024) := by
  unfold out0_15
  refine View.canon_apply_of_pieces (Val := Elt Ideal) (S := S1x512x1024) (e := .f32) (fun y => rowO x0 x1 x2 x3 x4 x5 x6 x7 x8 x9 x10 x11 x12 x13 x14 (y 1 : Fin 512) (y 2 : Fin 1024)) _ ?_ y (cover0_15 _ _ y)
  intro p hp
  rcases List.mem_cons.mp hp with rfl | hp
  · intro x
    rw [half_idx x]
    refine (hi_o x0 x1 x2 x3 x4 x5 x6 x7 x8 x9 x10 x11 x12 x13 x14 (x 1 : Fin 256) (x 2 : Fin 1024)).trans (congrArg₂ (rowO x0 x1 x2 x3 x4 x5 x6 x7 x8 x9 x10 x11 x12 x13 x14) (Fin.ext ?_) (Fin.ext ?_))
    · show 256 + (x 1).val = 256 + 1 * (x 1).val
      omega
    · show (x 2).val = 0 + 1 * (x 2).val
      omega
  · rw [List.mem_singleton.mp hp]
    intro x
    rw [half_idx x]
    refine (lo_o x0 x1 x2 x3 x4 x5 x6 x7 x8 x9 x10 x11 x12 x13 x14 (x 1 : Fin 256) (x 2 : Fin 1024)).trans (congrArg₂ (rowO x0 x1 x2 x3 x4 x5 x6 x7 x8 x9 x10 x11 x12 x13 x14) (Fin.ext ?_) (Fin.ext ?_))
    · show (x 1).val = 0 + 1 * (x 1).val
      omega
    · show (x 2).val = 0 + 1 * (x 2).val
      omega

end Rows

section Blocks

variable (m : (ℓ : Loc nD τ sig) → Buf (Elt Ideal) ℓ) (c : Dev nD) (t : Fin cfg0.N)

/-- Which blocks a grid point names. -/
theorem idx_all : ∀ t : Fin cfg0.N,
    win0_0.index t = ![(grid0.coords t 0).val, (grid0.coords t 1).val, 0] ∧ win0_1.index t = ![(grid0.coords t 0).val, 2, 0, 0] ∧
    win0_2.index t = ![(grid0.coords t 0).val, 3, 0, 0] ∧ win0_3.index t = ![(grid0.coords t 0).val, 4, 0, 0] ∧ win0_4.index t = ![(grid0.coords t 0).val, 5, 0, 0] ∧
    win0_5.index t = ![(grid0.coords t 0).val * 4 + (grid0.coords t 1).val, 0] ∧ win0_6.index t = ![(grid0.coords t 0).val * 4 + (grid0.coords t 1).val, 0] ∧
    win0_7.index t = ![(grid0.coords t 0).val * 4 + (grid0.coords t 1).val, 0] ∧ win0_8.index t = ![(grid0.coords t 0).val * 4 + (grid0.coords t 1).val, 0] ∧
    win0_9.index t = ![0, 0] ∧ win0_10.index t = ![0, 0] ∧ win0_11.index t = ![0, 0] ∧ win0_12.index t = ![0, 0] ∧ win0_13.index t = ![0, 0] ∧
    win0_14.index t = ![0, 0] ∧ win0_15.index t = ![(grid0.coords t 0).val, (grid0.coords t 1).val, 0] := by
  decide +kernel

/-- The batch that a grid point works on. -/
def bat : Fin 32 := ⟨(grid0.coords t 0).val, (grid0.coords t 0).isLt⟩

/-- The position of a block's row in its batch. -/
def pos (r : Fin 512) : Fin 2048 := ⟨(grid0.coords t 1).val * 512 + r.val, by have : (grid0.coords t 1).val < 4 := (grid0.coords t 1).isLt; omega⟩

/-- The flat row of the tokens. -/
def flat (r : Fin 512) : Fin 65536 := ⟨((grid0.coords t 0).val * 4 + (grid0.coords t 1).val) * 512 + r.val, by
  have h0 : (grid0.coords t 0).val < 32 := (grid0.coords t 0).isLt
  have h1 : (grid0.coords t 1).val < 4 := (grid0.coords t 1).isLt
  omega⟩

/-- Where a row block lies. -/
theorem emb_0 (r : Fin 512) (d : Fin 1024) : ((cfg0.win 0).blk t).view.emb (ix3 (0 : Fin 1) r d) = ix3 (bat t) (pos t r) d := by
  funext a
  refine Fin.ext ?_
  match a with
  | ⟨0, _⟩ => blk_simp [idx_all t] <;> (try show _ = _) <;> (try rfl) <;> (try simp) <;> (try omega)
  | ⟨1, _⟩ => blk_simp [idx_all t] <;> (try show _ = _) <;> (try rfl) <;> (try simp) <;> (try omega)
  | ⟨2, _⟩ => blk_simp [idx_all t] <;> (try show _ = _) <;> (try rfl) <;> (try simp) <;> (try omega)

/-- Where a row block lies. -/
theorem emb_15 (r : Fin 512) (d : Fin 1024) : ((cfg0.win 15).blk t).view.emb (ix3 (0 : Fin 1) r d) = ix3 (bat t) (pos t r) d := by
  funext a
  refine Fin.ext ?_
  match a with
  | ⟨0, _⟩ => blk_simp [idx_all t] <;> (try show _ = _) <;> (try rfl) <;> (try simp) <;> (try omega)
  | ⟨1, _⟩ => blk_simp [idx_all t] <;> (try show _ = _) <;> (try rfl) <;> (try simp) <;> (try omega)
  | ⟨2, _⟩ => blk_simp [idx_all t] <;> (try show _ = _) <;> (try rfl) <;> (try simp) <;> (try omega)

/-- Where a modulation row lies. -/
theorem emb_1 (d : Fin 1024) : ((cfg0.win 1).blk t).view.emb (ix4 (0 : Fin 1) (0 : Fin 1) (0 : Fin 1) d) = ix4 (bat t) (2 : Fin 6) (0 : Fin 1) d := by
  funext a
  refine Fin.ext ?_
  match a with
  | ⟨0, _⟩ => blk_simp [idx_all t] <;> (try show _ = _) <;> (try rfl) <;> (try simp) <;> (try omega)
  | ⟨1, _⟩ => blk_simp [idx_all t] <;> (try show _ = _) <;> (try rfl) <;> (try simp) <;> (try omega)
  | ⟨2, _⟩ => blk_simp [idx_all t] <;> (try show _ = _) <;> (try rfl) <;> (try simp) <;> (try omega)
  | ⟨3, _⟩ => blk_simp [idx_all t] <;> (try show _ = _) <;> (try rfl) <;> (try simp) <;> (try omega)

/-- Where a modulation row lies. -/
theorem emb_2 (d : Fin 1024) : ((cfg0.win 2).blk t).view.emb (ix4 (0 : Fin 1) (0 : Fin 1) (0 : Fin 1) d) = ix4 (bat t) (3 : Fin 6) (0 : Fin 1) d := by
  funext a
  refine Fin.ext ?_
  match a with
  | ⟨0, _⟩ => blk_simp [idx_all t] <;> (try show _ = _) <;> (try rfl) <;> (try simp) <;> (try omega)
  | ⟨1, _⟩ => blk_simp [idx_all t] <;> (try show _ = _) <;> (try rfl) <;> (try simp) <;> (try omega)
  | ⟨2, _⟩ => blk_simp [idx_all t] <;> (try show _ = _) <;> (try rfl) <;> (try simp) <;> (try omega)
  | ⟨3, _⟩ => blk_simp [idx_all t] <;> (try show _ = _) <;> (try rfl) <;> (try simp) <;> (try omega)

/-- Where a modulation row lies. -/
theorem emb_3 (d : Fin 1024) : ((cfg0.win 3).blk t).view.emb (ix4 (0 : Fin 1) (0 : Fin 1) (0 : Fin 1) d) = ix4 (bat t) (4 : Fin 6) (0 : Fin 1) d := by
  funext a
  refine Fin.ext ?_
  match a with
  | ⟨0, _⟩ => blk_simp [idx_all t] <;> (try show _ = _) <;> (try rfl) <;> (try simp) <;> (try omega)
  | ⟨1, _⟩ => blk_simp [idx_all t] <;> (try show _ = _) <;> (try rfl) <;> (try simp) <;> (try omega)
  | ⟨2, _⟩ => blk_simp [idx_all t] <;> (try show _ = _) <;> (try rfl) <;> (try simp) <;> (try omega)
  | ⟨3, _⟩ => blk_simp [idx_all t] <;> (try show _ = _) <;> (try rfl) <;> (try simp) <;> (try omega)

/-- Where a modulation row lies. -/
theorem emb_4 (d : Fin 1024) : ((cfg0.win 4).blk t).view.emb (ix4 (0 : Fin 1) (0 : Fin 1) (0 : Fin 1) d) = ix4 (bat t) (5 : Fin 6) (0 : Fin 1) d := by
  funext a
  refine Fin.ext ?_
  match a with
  | ⟨0, _⟩ => blk_simp [idx_all t] <;> (try show _ = _) <;> (try rfl) <;> (try simp) <;> (try omega)
  | ⟨1, _⟩ => blk_simp [idx_all t] <;> (try show _ = _) <;> (try rfl) <;> (try simp) <;> (try omega)
  | ⟨2, _⟩ => blk_simp [idx_all t] <;> (try show _ = _) <;> (try rfl) <;> (try simp) <;> (try omega)
  | ⟨3, _⟩ => blk_simp [idx_all t] <;> (try show _ = _) <;> (try rfl) <;> (try simp) <;> (try omega)

/-- Where a token block lies. -/
theorem emb_5 (r : Fin 512) (d : Fin 512) : ((cfg0.win 5).blk t).view.emb (ix2 r d) = ix2 (flat t r) d := by
  funext a
  refine Fin.ext ?_
  match a with
  | ⟨0, _⟩ => blk_simp [idx_all t] <;> (try show _ = _) <;> (try rfl) <;> (try simp) <;> (try omega)
  | ⟨1, _⟩ => blk_simp [idx_all t] <;> (try show _ = _) <;> (try rfl) <;> (try simp) <;> (try omega)

/-- Where a token block lies. -/
theorem emb_6 (r : Fin 512) (d : Fin 512) : ((cfg0.win 6).blk t).view.emb (ix2 r d) = ix2 (flat t r) d := by
  funext a
  refine Fin.ext ?_
  match a with
  | ⟨0, _⟩ => blk_simp [idx_all t] <;> (try show _ = _) <;> (try rfl) <;> (try simp) <;> (try omega)
  | ⟨1, _⟩ => blk_simp [idx_all t] <;> (try show _ = _) <;> (try rfl) <;> (try simp) <;> (try omega)

/-- Where a token block lies. -/
theorem emb_7 (r : Fin 512) (d : Fin 1024) : ((cfg0.win 7).blk t).view.emb (ix2 r d) = ix2 (flat t r) d := by
  funext a
  refine Fin.ext ?_
  match a with
  | ⟨0, _⟩ => blk_simp [idx_all t] <;> (try show _ = _) <;> (try rfl) <;> (try simp) <;> (try omega)
  | ⟨1, _⟩ => blk_simp [idx_all t] <;> (try show _ = _) <;> (try rfl) <;> (try simp) <;> (try omega)

/-- Where a token block lies. -/
theorem emb_8 (r : Fin 512) (d : Fin 1024) : ((cfg0.win 8).blk t).view.emb (ix2 r d) = ix2 (flat t r) d := by
  funext a
  refine Fin.ext ?_
  match a with
  | ⟨0, _⟩ => blk_simp [idx_all t] <;> (try show _ = _) <;> (try rfl) <;> (try simp) <;> (try omega)
  | ⟨1, _⟩ => blk_simp [idx_all t] <;> (try show _ = _) <;> (try rfl) <;> (try simp) <;> (try omega)

/-- A weight's block is the weight. -/
theorem emb_9 (r : Fin 512) (d : Fin 1024) : ((cfg0.win 9).blk t).view.emb (ix2 r d) = ix2 r d := by
  funext a
  refine Fin.ext ?_
  match a with
  | ⟨0, _⟩ => blk_simp [idx_all t] <;> (try show _ = _) <;> (try rfl) <;> (try simp) <;> (try omega)
  | ⟨1, _⟩ => blk_simp [idx_all t] <;> (try show _ = _) <;> (try rfl) <;> (try simp) <;> (try omega)

/-- A weight's block is the weight. -/
theorem emb_10 (r : Fin 512) (d : Fin 1024) : ((cfg0.win 10).blk t).view.emb (ix2 r d) = ix2 r d := by
  funext a
  refine Fin.ext ?_
  match a with
  | ⟨0, _⟩ => blk_simp [idx_all t] <;> (try show _ = _) <;> (try rfl) <;> (try simp) <;> (try omega)
  | ⟨1, _⟩ => blk_simp [idx_all t] <;> (try show _ = _) <;> (try rfl) <;> (try simp) <;> (try omega)

/-- A weight's block is the weight. -/
theorem emb_11 (r : Fin 1024) (d : Fin 1024) : ((cfg0.win 11).blk t).view.emb (ix2 r d) = ix2 r d := by
  funext a
  refine Fin.ext ?_
  match a with
  | ⟨0, _⟩ => blk_simp [idx_all t] <;> (try show _ = _) <;> (try rfl) <;> (try simp) <;> (try omega)
  | ⟨1, _⟩ => blk_simp [idx_all t] <;> (try show _ = _) <;> (try rfl) <;> (try simp) <;> (try omega)

/-- A weight's block is the weight. -/
theorem emb_12 (r : Fin 1) (d : Fin 1024) : ((cfg0.win 12).blk t).view.emb (ix2 r d) = ix2 r d := by
  funext a
  refine Fin.ext ?_
  match a with
  | ⟨0, _⟩ => blk_simp [idx_all t] <;> (try show _ = _) <;> (try rfl) <;> (try simp) <;> (try omega)
  | ⟨1, _⟩ => blk_simp [idx_all t] <;> (try show _ = _) <;> (try rfl) <;> (try simp) <;> (try omega)

/-- A weight's block is the weight. -/
theorem emb_13 (r : Fin 1024) (d : Fin 5632) : ((cfg0.win 13).blk t).view.emb (ix2 r d) = ix2 r d := by
  funext a
  refine Fin.ext ?_
  match a with
  | ⟨0, _⟩ => blk_simp [idx_all t] <;> (try show _ = _) <;> (try rfl) <;> (try simp) <;> (try omega)
  | ⟨1, _⟩ => blk_simp [idx_all t] <;> (try show _ = _) <;> (try rfl) <;> (try simp) <;> (try omega)

/-- A weight's block is the weight. -/
theorem emb_14 (r : Fin 2816) (d : Fin 1024) : ((cfg0.win 14).blk t).view.emb (ix2 r d) = ix2 r d := by
  funext a
  refine Fin.ext ?_
  match a with
  | ⟨0, _⟩ => blk_simp [idx_all t] <;> (try show _ = _) <;> (try rfl) <;> (try simp) <;> (try omega)
  | ⟨1, _⟩ => blk_simp [idx_all t] <;> (try show _ = _) <;> (try rfl) <;> (try simp) <;> (try omega)

/-- The tokens in a flat row. -/
theorem cast_tok (x : S32x2048x512.Idx → EReal) (h : S32x2048x512.ShapeCasts S65536x512) (r : Fin 512) (d : Fin 512) :
    shapeCast S65536x512 x h (ix2 (flat t r) d) = x (ix3 (bat t) (pos t r) d) := by
  refine shapeCast_apply x h _ _ ?_
  rw [Shape.rowMajor_val_two, Shape.rowMajor_val_three]
  show ((grid0.coords t 0).val * 2048 + ((grid0.coords t 1).val * 512 + r.val)) * 512 + d.val = (((grid0.coords t 0).val * 4 + (grid0.coords t 1).val) * 512 + r.val) * 512 + d.val
  omega

/-- A weight without its unit axis. -/
theorem cast_w {a b : Nat} (x : (⟨3, ![1, a, b]⟩ : Shape).Idx → EReal) (h : (⟨3, ![1, a, b]⟩ : Shape).ShapeCasts ⟨2, ![a, b]⟩) (r : Fin a) (d : Fin b) :
    shapeCast ⟨2, ![a, b]⟩ x h (ix2 r d) = x (ix3 (0 : Fin 1) r d) := by
  refine shapeCast_apply x h _ _ ?_
  rw [Shape.rowMajor_val_two, Shape.rowMajor_val_three]
  show (0 * a + r.val) * b + d.val = r.val * b + d.val
  rw [Nat.zero_mul, Nat.zero_add]

/-- The residual rows of a block. -/
theorem iblk_0 (r : Fin 512) (d : Fin 1024) : (iblk m c 0 t : S1x512x1024.Idx → Ideal .f32) (ix3 (0 : Fin 1) r d) = m ((c : Thread nD τ).loc main_arg0) (ix3 (bat t) (pos t r) d) := by
  unfold iblk
  entry_read
  exact congrArg (m ((c : Thread nD τ).loc main_arg0)) (emb_0 t r d)

/-- A modulation row of a block. -/
theorem iblk_1 (d : Fin 1024) : (iblk m c 1 t : S1x1x1x1024.Idx → Ideal .f32) (ix4 (0 : Fin 1) (0 : Fin 1) (0 : Fin 1) d) = m ((c : Thread nD τ).loc main_arg1) (ix4 (bat t) (2 : Fin 6) (0 : Fin 1) d) := by
  unfold iblk
  entry_read
  exact congrArg (m ((c : Thread nD τ).loc main_arg1)) (emb_1 t d)

/-- A modulation row of a block. -/
theorem iblk_2 (d : Fin 1024) : (iblk m c 2 t : S1x1x1x1024.Idx → Ideal .f32) (ix4 (0 : Fin 1) (0 : Fin 1) (0 : Fin 1) d) = m ((c : Thread nD τ).loc main_arg1) (ix4 (bat t) (3 : Fin 6) (0 : Fin 1) d) := by
  unfold iblk
  entry_read
  exact congrArg (m ((c : Thread nD τ).loc main_arg1)) (emb_2 t d)

/-- A modulation row of a block. -/
theorem iblk_3 (d : Fin 1024) : (iblk m c 3 t : S1x1x1x1024.Idx → Ideal .f32) (ix4 (0 : Fin 1) (0 : Fin 1) (0 : Fin 1) d) = m ((c : Thread nD τ).loc main_arg1) (ix4 (bat t) (4 : Fin 6) (0 : Fin 1) d) := by
  unfold iblk
  entry_read
  exact congrArg (m ((c : Thread nD τ).loc main_arg1)) (emb_3 t d)

/-- A modulation row of a block. -/
theorem iblk_4 (d : Fin 1024) : (iblk m c 4 t : S1x1x1x1024.Idx → Ideal .f32) (ix4 (0 : Fin 1) (0 : Fin 1) (0 : Fin 1) d) = m ((c : Thread nD τ).loc main_arg1) (ix4 (bat t) (5 : Fin 6) (0 : Fin 1) d) := by
  unfold iblk
  entry_read
  exact congrArg (m ((c : Thread nD τ).loc main_arg1)) (emb_4 t d)

/-- The mixer rows of a block. -/
theorem iblk_5 (r : Fin 512) (d : Fin 512) : (iblk m c 5 t : S512x512.Idx → Ideal .bf16) (ix2 r d) = m ((c : Thread nD τ).loc main_arg2) (ix3 (bat t) (pos t r) d) := by
  unfold iblk
  entry_read
  change shapeCast S65536x512 (m ((c : Thread nD τ).loc main_arg2)) shapeCasts_S32x2048x512_S65536x512 (((cfg0.win 5).blk t).view.emb (ix2 r d)) = _
  rw [emb_5]
  exact cast_tok t _ _ r d

/-- The mixer rows of a block. -/
theorem iblk_6 (r : Fin 512) (d : Fin 512) : (iblk m c 6 t : S512x512.Idx → Ideal .bf16) (ix2 r d) = m ((c : Thread nD τ).loc main_arg3) (ix3 (bat t) (pos t r) d) := by
  unfold iblk
  entry_read
  change shapeCast S65536x512 (m ((c : Thread nD τ).loc main_arg3)) shapeCasts_S32x2048x512_S65536x512 (((cfg0.win 6).blk t).view.emb (ix2 r d)) = _
  rw [emb_6]
  exact cast_tok t _ _ r d

/-- The gate rows of a block. -/
theorem iblk_7 (r : Fin 512) (d : Fin 1024) : (iblk m c 7 t : S512x1024.Idx → Ideal .bf16) (ix2 r d) = m ((c : Thread nD τ).loc main_arg4) (ix2 (flat t r) d) := by
  unfold iblk
  entry_read
  exact congrArg (m ((c : Thread nD τ).loc main_arg4)) (emb_7 t r d)

/-- The gate rows of a block. -/
theorem iblk_8 (r : Fin 512) (d : Fin 1024) : (iblk m c 8 t : S512x1024.Idx → Ideal .bf16) (ix2 r d) = m ((c : Thread nD τ).loc main_arg5) (ix2 (flat t r) d) := by
  unfold iblk
  entry_read
  exact congrArg (m ((c : Thread nD τ).loc main_arg5)) (emb_8 t r d)

/-- The block of a weight. -/
theorem iblk_9 (r : Fin 512) (d : Fin 1024) : (iblk m c 9 t : S512x1024.Idx → Ideal .bf16) (ix2 r d) = m ((c : Thread nD τ).loc main_arg6) (ix3 (0 : Fin 1) r d) := by
  unfold iblk
  entry_read
  change shapeCast S512x1024 (m ((c : Thread nD τ).loc main_arg6)) shapeCasts_S1x512x1024_S512x1024 (((cfg0.win 9).blk t).view.emb (ix2 r d)) = _
  rw [emb_9]
  exact cast_w _ _ r d

/-- The block of a weight. -/
theorem iblk_10 (r : Fin 512) (d : Fin 1024) : (iblk m c 10 t : S512x1024.Idx → Ideal .bf16) (ix2 r d) = m ((c : Thread nD τ).loc main_arg7) (ix3 (0 : Fin 1) r d) := by
  unfold iblk
  entry_read
  change shapeCast S512x1024 (m ((c : Thread nD τ).loc main_arg7)) shapeCasts_S1x512x1024_S512x1024 (((cfg0.win 10).blk t).view.emb (ix2 r d)) = _
  rw [emb_10]
  exact cast_w _ _ r d

/-- The block of a weight. -/
theorem iblk_11 (r : Fin 1024) (d : Fin 1024) : (iblk m c 11 t : S1024x1024.Idx → Ideal .bf16) (ix2 r d) = m ((c : Thread nD τ).loc main_arg8) (ix3 (0 : Fin 1) r d) := by
  unfold iblk
  entry_read
  change shapeCast S1024x1024 (m ((c : Thread nD τ).loc main_arg8)) shapeCasts_S1x1024x1024_S1024x1024 (((cfg0.win 11).blk t).view.emb (ix2 r d)) = _
  rw [emb_11]
  exact cast_w _ _ r d

/-- The block of a weight. -/
theorem iblk_13 (r : Fin 1024) (d : Fin 5632) : (iblk m c 13 t : S1024x5632.Idx → Ideal .bf16) (ix2 r d) = m ((c : Thread nD τ).loc main_arg10) (ix3 (0 : Fin 1) r d) := by
  unfold iblk
  entry_read
  change shapeCast S1024x5632 (m ((c : Thread nD τ).loc main_arg10)) shapeCasts_S1x1024x5632_S1024x5632 (((cfg0.win 13).blk t).view.emb (ix2 r d)) = _
  rw [emb_13]
  exact cast_w _ _ r d

/-- The block of a weight. -/
theorem iblk_14 (r : Fin 2816) (d : Fin 1024) : (iblk m c 14 t : S2816x1024.Idx → Ideal .bf16) (ix2 r d) = m ((c : Thread nD τ).loc main_arg11) (ix3 (0 : Fin 1) r d) := by
  unfold iblk
  entry_read
  change shapeCast S2816x1024 (m ((c : Thread nD τ).loc main_arg11)) shapeCasts_S1x2816x1024_S2816x1024 (((cfg0.win 14).blk t).view.emb (ix2 r d)) = _
  rw [emb_14]
  exact cast_w _ _ r d

/-- The block of the norm's weight. -/
theorem iblk_12 (d : Fin 1024) : (iblk m c 12 t : S1x1024.Idx → Ideal .f32) (ix2 (0 : Fin 1) d) = m ((c : Thread nD τ).loc main_arg9) (ix2 (0 : Fin 1) d) := by
  unfold iblk
  entry_read
  refine (congrArg (shapeCast main_v13.ty.shape (fun i => shapeCast main_v12.ty.shape (m (c, Proc.tc.devRef main_arg9)) shapeCasts_S1x1024_S1024 i) shapeCasts_S1024_S1x1024) (emb_12 t (0 : Fin 1) d)).trans ?_
  pointwise

/-- A token's row of the gates is its block's. -/
theorem tok_flat (r : Fin 512) : Cert.Reference2Ideal.Out.tok (bat t) (pos t r) = flat t r :=
  Fin.ext (by
    show (grid0.coords t 0).val * 2048 + ((grid0.coords t 1).val * 512 + r.val) = ((grid0.coords t 0).val * 4 + (grid0.coords t 1).val) * 512 + r.val
    omega)

/-- A grid point's rows are the reference's. -/
theorem row_eq (r : Fin 512) (d : Fin 1024) :
    rowO (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r d = Cert.Reference2Ideal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix3 (bat t) (pos t r) d) := by
  rw [Cert.Reference2Ideal.Out.v56_apply]
  simp only [Cert.Reference2Ideal.Out.v45_apply, Cert.Reference2Ideal.Out.v25_apply, Cert.Reference2Ideal.Out.v20_apply, tok_flat]
  unfold rowO rowU rowX
  simp only [iblk_0, iblk_1, iblk_2, iblk_3, iblk_4, iblk_5, iblk_6, iblk_7, iblk_8, iblk_9, iblk_10, iblk_11, iblk_12, iblk_13, iblk_14]

/-- An index of a block is its two free coordinates. -/
theorem block_idx (x : S1x512x1024.Idx) : x = ix3 (0 : Fin 1) (x 1 : Fin 512) (x 2 : Fin 1024) := by
  funext a
  match a with
  | ⟨0, _⟩ => exact Fin.ext (by have : (x 0).val < 1 := (x 0).isLt; show (x 0).val = 0; omega)
  | ⟨1, _⟩ => rfl
  | ⟨2, _⟩ => rfl

/-- The array the kernel leaves is the reference's. -/
theorem out_array :
    (dats m 0 c).arrAt 15 cfg0.N = Cert.Reference2Ideal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 15 _ (by decide +kernel) fun t hf y => ?_
  blk_simp
  rw [after0_15]
  refine (block_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y).trans ((row_eq m c t (y 1 : Fin 512) (y 2 : Fin 1024)).trans ?_)
  refine congrArg _ ((emb_15 t (y 1 : Fin 512) (y 2 : Fin 1024)).symm.trans ?_)
  exact congrArg _ (block_idx y).symm

end Blocks

end Cert.Kernel2Ideal.Out

end
-- ==== Proof.lean ====
/- The certificate's claim, put together from the modules of this directory (hand-written). -/
module

public import proofs.«01_k».proof.Defs
public import proofs.«01_k».proof.Proof.KernelFrame
public import proofs.«01_k».proof.Proof.KernelIdealFrame
public import proofs.«01_k».proof.Proof.Gen.ReferenceIdeal.Run
public import proofs.«01_k».proof.Proof.Gen.ReferenceIdeal.Read
public import proofs.«01_k».proof.Proof.AttnValue
public import proofs.«01_k».proof.Proof.Gen.Kernel2.Frame
public import proofs.«01_k».proof.Proof.Gen.Kernel2Ideal.Value
public import proofs.«01_k».proof.Proof.OutValue
public import proofs.«01_k».proof.Proof.Gen.Reference2Ideal.Run
public import proofs.«01_k».proof.Proof.Gen.Reference2Ideal.Read
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs to its end, leaves its arguments and its counters. -/
theorem kernel_frame : Cert.quiescent_Kernel (hKernel := Cert.Kernel.Gen.facts) :=
  fun m g _ => Cert.Kernel.Attn.frame_run (F := Bits) m g

/-- So does the kernel over the extended reals. -/
theorem kernelIdeal_frame : Cert.quiescent_KernelIdeal (hKernelIdeal := Cert.KernelIdeal.Gen.facts) :=
  fun m g _ => Cert.KernelIdeal.Attn.frame_run (F := Ideal) m g

/-- So does the reference over the extended reals. -/
theorem referenceIdeal_frame : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run (F := Ideal) m g)

/-- The only rewrite gives the softmax constant its name. -/
theorem kernel_preserves : Cert.preserves_Kernel_KernelIdeal :=
  IdealRules.named_const.statement Cert.KernelIdeal.κ "scale_log2e" .f32 0x3E38AA3B#32 (((8 * (Real.log 2))⁻¹ : ℝ) : EReal) rfl

/-- The precondition's side conditions. -/
theorem pre_facts : Cert.Pre_finite.Facts := ⟨by decide, by decide⟩

/-- A finite array, read at natural numbers. -/
def natOf (x : Cert.KernelIdeal.S32x2048x512.Idx → Ideal .f32) (b p j : ℕ) : ℝ :=
  (x (ix3 (⟨b % 32, Nat.mod_lt _ (by decide)⟩ : Fin 32) (⟨p % 2048, Nat.mod_lt _ (by decide)⟩ : Fin 2048) (⟨j % 512, Nat.mod_lt _ (by decide)⟩ : Fin 512))).toReal

/-- A finite array is what it reads as at natural numbers. -/
theorem natOf_eq (x : Cert.KernelIdeal.S32x2048x512.Idx → Ideal .f32) (h : ∀ i, x i = (((x i).toReal : ℝ) : EReal)) (i : Cert.KernelIdeal.S32x2048x512.Idx) :
    x i = ((natOf x (i 0).val (i 1).val (i 2).val : ℝ) : EReal) := by
  refine (h i).trans ?_
  unfold natOf
  refine congrArg (fun z => (((x z).toReal : ℝ) : EReal)) (funext fun a => Fin.ext ?_)
  match a with
  | ⟨0, _⟩ => exact (Nat.mod_eq_of_lt (i 0).isLt).symm
  | ⟨1, _⟩ => exact (Nat.mod_eq_of_lt (i 1).isLt).symm
  | ⟨2, _⟩ => exact (Nat.mod_eq_of_lt (i 2).isLt).symm

/-- On finite queries, keys, values and lambda rows the kernel and the reference end with the same array. -/
theorem kernel_algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hp ha
  refine ⟨fun c => Cert.ReferenceIdeal.Read.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · have hrun := Cert.KernelIdeal.Attn.run_value m g (Cert.KernelIdeal.Attn.outAt m) (Cert.KernelIdeal.Attn.leaves_out m)
    have hpost := (θ_run Cert.KernelIdeal.defs _ _).mono (fun r h => h.1) hrun
    have hfr := Cert.KernelIdeal.Gen.frame_of m g _ (Cert.KernelIdeal.Attn.datV_A m (Cert.KernelIdeal.Attn.outAt m)) hpost
    refine (θ_run Cert.KernelIdeal.defs _ _).mono (fun r h c => ⟨?_, ?_⟩) (θ_run_and hpost hfr)
    · obtain ⟨p0, p1, p2, p3, p4, p5, p6⟩ := hp c
      have f0 (i) := Cert.KernelIdeal.Attn.real_of_finite _ (congrFun p0 i)
      have f1 (i) := Cert.KernelIdeal.Attn.real_of_finite _ (congrFun p1 i)
      have f2 (i) := Cert.KernelIdeal.Attn.real_of_finite _ (congrFun p2 i)
      have f3 (i) := Cert.KernelIdeal.Attn.real_of_finite _ (congrFun p3 i)
      have f4 (i) := Cert.KernelIdeal.Attn.real_of_finite _ (congrFun p4 i)
      have f5 (i) := Cert.KernelIdeal.Attn.real_of_finite _ (congrFun p5 i)
      have f6 (i) := Cert.KernelIdeal.Attn.real_of_finite _ (congrFun p6 i)
      obtain ⟨lr, hl⟩ := Cert.KernelIdeal.Attn.lam_real _ _ _ _ f3 f4 f5 f6
      exact ((h.1 c).1 8).trans (Cert.KernelIdeal.Attn.out_array m c _ _ _ (natOf_eq _ f0) (natOf_eq _ f1) (natOf_eq _ f2) lr
        ((Cert.KernelIdeal.Attn.lam_apply _ _ _ _).trans hl))
    · exact h.2 c
  · refine (θ_run Cert.ReferenceIdeal.defs _ _).mono (fun r h c => ?_) (Cert.ReferenceIdeal.Value.run (F := Ideal) m' g')
    obtain ⟨a0, a1, a2, a3, a4, a5, a6, a7⟩ := ha c
    refine ⟨(h c).1.trans ((Cert.ReferenceIdeal.Read.val_main_v62_eq m' c).trans ?_), (h c).2⟩
    rw [a0, a1, a2, a3, a4, a5, a6, a7]

/-- The output call runs to its end, leaves its arguments and its counters. -/
theorem kernel2_frame : Cert.quiescent_Kernel2 (hKernel2 := Cert.Kernel2.Gen.facts) :=
  fun m g _ => Cert.Kernel2.Gen.frame (F := Bits) m g

/-- So does the output call over the extended reals. -/
theorem kernel2Ideal_frame : Cert.quiescent_Kernel2Ideal (hKernel2Ideal := Cert.Kernel2Ideal.Gen.facts) :=
  fun m g _ => Cert.Kernel2Ideal.Gen.frame (F := Ideal) m g

/-- So does its reference over the extended reals. -/
theorem reference2Ideal_frame : Cert.quiescent_Reference2Ideal (hReference2Ideal := Cert.Reference2Ideal.Gen.facts) :=
  fun m g _ => (θ_run Cert.Reference2Ideal.defs _ _).mono
    (fun r h => ⟨fun c => (h c).2, sem_eq_zero_of_no_sems (by decide) r.2⟩) (Cert.Reference2Ideal.Value.run (F := Ideal) m g)

/-- The output call and its reference end with the same array. -/
theorem kernel2_algebraic : Cert.algebraic_Kernel2Ideal_Reference2Ideal (hKernel2Ideal := Cert.Kernel2Ideal.Gen.facts)
    (hReference2Ideal := Cert.Reference2Ideal.Gen.facts) := by
  intro m g m' g' hp ha
  refine ⟨fun c => Cert.Reference2Ideal.Read.val_main_v56 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)), ?_, ?_⟩
  · exact (θ_run Cert.Kernel2Ideal.defs _ _).mono (fun r h c => ⟨(h c).1.trans (Cert.Kernel2Ideal.Out.out_array m c), (h c).2⟩)
      (Cert.Kernel2Ideal.Value.run_blocks m g)
  · refine (θ_run Cert.Reference2Ideal.defs _ _).mono (fun r h c => ?_) (Cert.Reference2Ideal.Value.run (F := Ideal) m' g')
    obtain ⟨a0, a1, a2, a3, a4, a5, a6, a7, a8, a9, a10, a11⟩ := ha c
    refine ⟨(h c).1.trans ((Cert.Reference2Ideal.Read.val_main_v56_eq m' c).trans ?_), (h c).2⟩
    rw [a0, a1, a2, a3, a4, a5, a6, a7, a8, a9, a10, a11]

/-- Everything that is claimed of the two calls. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, pre_facts,
  kernel_frame, kernelIdeal_frame, fun m g _ => kernelIdeal_frame m g trivial, referenceIdeal_frame, fun m g _ => referenceIdeal_frame m g trivial,
  kernel2_frame, kernel2Ideal_frame, reference2Ideal_frame, kernel_preserves, kernel_algebraic, trivial, kernel2_algebraic⟩

end Cert.Proof

end
